-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S8x256 : Shape := ⟨2, ![8, 256]⟩
abbrev S128x512 : Shape := ⟨2, ![128, 512]⟩
abbrev S512x2 : Shape := ⟨2, ![512, 2]⟩
abbrev S3x128x512 : Shape := ⟨3, ![3, 128, 512]⟩
abbrev S3 : Shape := ⟨1, ![3]⟩
abbrev S_ : Shape := ⟨0, ![]⟩
abbrev S1 : Shape := ⟨1, ![1]⟩
abbrev S512x8 : Shape := ⟨2, ![512, 8]⟩
abbrev S512 : Shape := ⟨1, ![512]⟩
abbrev S1x256x512 : Shape := ⟨3, ![1, 256, 512]⟩
abbrev S128x256 : Shape := ⟨2, ![128, 256]⟩
abbrev S128x1 : Shape := ⟨2, ![128, 1]⟩
abbrev S1x128x512 : Shape := ⟨3, ![1, 128, 512]⟩

abbrev nBuf : Space → Nat
  | .hbm => 7
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S8x256, .f32⟩
  | .hbm, ⟨6, _⟩ => ⟨S128x512, .f32⟩
  | .local _ .vmem, ⟨0, _⟩ => ⟨S8x256, .f32⟩
  | .local _ .vmem, ⟨1, _⟩ => ⟨S512x1, .i32⟩
  | .local _ .vmem, ⟨2, _⟩ => ⟨S512x256, .f32⟩
  | .local _ .vmem, ⟨3, _⟩ => ⟨S2x256x512, .f32⟩
  | .local _ .vmem, ⟨4, _⟩ => ⟨S256x512, .f32⟩
  | .local _ .vmem, ⟨5, _⟩ => ⟨S512x2, .f32⟩
  | .local _ .vmem, ⟨6, _⟩ => ⟨S3x128x512, .bf16⟩
  | .local _ .vmem, ⟨7, _⟩ => ⟨S3x128x512, .bf16⟩
  | .local _ .vmem, ⟨8, _⟩ => ⟨S128x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.addi v2 c2_i32_39
  let c4_i32_40 : BitVec 32 := 4#32
  let v74 : BitVec 32 := Scalar.remsi v73 c4_i32_40
  let c128_i32 : BitVec 32 := 128#32
  let v75 : BitVec 32 := Scalar.muli v74 c128_i32
  let v76 : Index := Scalar.indexCast v75
  let c0_41 : Index := 0#32
  ![v76.toNat, 0]
def k0_off2 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.addi v2 c2_i32_39
  let c4_i32_40 : BitVec 32 := 4#32
  let v74 : BitVec 32 := Scalar.remsi v73 c4_i32_40
  let c128_i32 : BitVec 32 := 128#32
  let v75 : BitVec 32 := Scalar.muli v74 c128_i32
  let v81 : Index := Scalar.indexCast v75
  let c0_44 : Index := 0#32
  ![v81.toNat, 0]
def k0_off3 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v73 : BitVec 32 := Scalar.addi v2 c2_i32_39
  let c4_i32_40 : BitVec 32 := 4#32
  let v74 : BitVec 32 := Scalar.remsi v73 c4_i32_40
  let c128_i32 : BitVec 32 := 128#32
  let v75 : BitVec 32 := Scalar.muli v74 c128_i32
  let v83 : Index := Scalar.indexCast v75
  let c1_45 : Index := 1#32
  ![v83.toNat, 1]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v73 : BitVec 32 := Scalar.addi v2 c2_i32_39
  let c4_i32_40 : BitVec 32 := 4#32
  let v74 : BitVec 32 := Scalar.remsi v73 c4_i32_40
  let c1_i32_53 : BitVec 32 := 1#32
  let v94 : BitVec 32 := Scalar.muli v74 c1_i32_53
  let v95 : BitVec 32 := Scalar.addi c0_i32_54 v94
  v95.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v104 : BitVec 32 := Scalar.addi v2 c1_i32_59
  let c4_i32_60 : BitVec 32 := 4#32
  let v105 : BitVec 32 := Scalar.remsi v104 c4_i32_60
  let c1_i32_74 : BitVec 32 := 1#32
  let v125 : BitVec 32 := Scalar.muli v105 c1_i32_74
  let v126 : BitVec 32 := Scalar.addi c0_i32_75 v125
  v126.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v135 : BitVec 32 := Scalar.addi v2 c3_i32_80
  let c4_i32_81 : BitVec 32 := 4#32
  let v136 : BitVec 32 := Scalar.remsi v135 c4_i32_81
  let c1_i32_94 : BitVec 32 := 1#32
  let v156 : BitVec 32 := Scalar.muli v136 c1_i32_94
  let v157 : BitVec 32 := Scalar.addi c0_i32_95 v156
  v157.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_100 : BitVec 32 := 128#32
  let v166 : BitVec 32 := Scalar.muli v2 c128_i32_100
  let v167 : Index := Scalar.indexCast v166
  let c0_101 : Index := 0#32
  ![v167.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_100 : BitVec 32 := 128#32
  let v166 : BitVec 32 := Scalar.muli v2 c128_i32_100
  let v177 : Index := Scalar.indexCast v166
  let c0_108 : Index := 0#32
  ![v177.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_100 : BitVec 32 := 128#32
  let v166 : BitVec 32 := Scalar.muli v2 c128_i32_100
  let v179 : Index := Scalar.indexCast v166
  let c1_109 : Index := 1#32
  ![v179.toNat, 1]
abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S512x8 : Shape := ⟨2, ![512, 8]⟩
abbrev S_ : Shape := ⟨0, ![]⟩
abbrev S512 : Shape := ⟨1, ![512]⟩
abbrev S512x512 : Shape := ⟨2, ![512, 512]⟩
abbrev S512x8x512 : Shape := ⟨3, ![512, 8, 512]⟩
abbrev S8 : Shape := ⟨1, ![8]⟩
abbrev S1x8 : Shape := ⟨2, ![1, 8]⟩
abbrev S512x8x1 : Shape := ⟨3, ![512, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S256x512, .f32⟩
  | .hbm, ⟨5, _⟩ => ⟨S512x8, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x8, .f32⟩
  | .hbm, ⟨10, _⟩ => ⟨S512x8, .f32⟩
  | .hbm, ⟨11, _⟩ => ⟨S512x8, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x8, .f32⟩
  | .hbm, ⟨16, _⟩ => ⟨S512x8, .f32⟩
  | .hbm, ⟨17, _⟩ => ⟨S512x512, .f32⟩
  | .hbm, ⟨18, _⟩ => ⟨S512x8x512, .f32⟩
  | .hbm, ⟨19, _⟩ => ⟨S8, .i32⟩
  | .hbm, ⟨20, _⟩ => ⟨S1x8, .i32⟩
  | .hbm, ⟨21, _⟩ => ⟨S512x8, .i32⟩
  | .hbm, ⟨22, _⟩ => ⟨S512x8, .i32⟩
  | .hbm, ⟨23, _⟩ => ⟨S512x8, .i1⟩
  | .hbm, ⟨24, _⟩ => ⟨S512x8x1, .i1⟩
  | .hbm, ⟨25, _⟩ => ⟨S512x8x1, .f32⟩
  | .hbm, ⟨26, _⟩ => ⟨S512x8x512, .f32⟩
  | .hbm, ⟨27, _⟩ => ⟨S512x8x512, .f32⟩
  | .hbm, ⟨28, _⟩ => ⟨S_, .f32⟩
  | .hbm, ⟨29, _⟩ => ⟨S_, .f32⟩
  | .hbm, ⟨30, _⟩ => ⟨S512x8x512, .i1⟩
  | .hbm, ⟨31, _⟩ => ⟨S512x8x512, .f32⟩
  | .hbm, ⟨32, _⟩ => ⟨S512x8x512, .f32⟩
  | .hbm, ⟨33, _⟩ => ⟨S_, .f32⟩
  | .hbm, ⟨34, _⟩ => ⟨S512x512, .f32⟩
  | .hbm, ⟨35, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.IdealCells.lean ====
/- The kernel's devices, semaphores, slots and named values: which device is how far along the ring, how the three
   slots of a partial or a landing buffer split it, and what each stage of the kernel computes, as functions of the
   memory the kernel starts from. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.VecWindow
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Devices along the ring -/

/-- The device `k + 1` places after `c`. -/
def fwd (k : Fin 3) (c : Dev nD) : Dev nD := ⟨(c.val + (k.val + 1)) % 4, Nat.mod_lt _ (by decide)⟩
/-- The device `k + 1` places before `c`. -/
def bwd (k : Fin 3) (c : Dev nD) : Dev nD := ⟨(c.val + (3 - k.val)) % 4, Nat.mod_lt _ (by decide)⟩
/-- The distance that leads back: `k + 1` places on, then `opp k + 1` more, is once around. -/
def opp (k : Fin 3) : Fin 3 := ⟨2 - k.val, by omega⟩

theorem bwd_fwd : ∀ (k : Fin 3) (c : Dev nD), bwd k (fwd k c) = c := by decide
theorem fwd_bwd : ∀ (k : Fin 3) (c : Dev nD), fwd k (bwd k c) = c := by decide
theorem fwd_opp : ∀ (k : Fin 3) (c : Dev nD), fwd (opp k) (fwd k c) = c := by decide
theorem fwd_opp' : ∀ (k : Fin 3) (c : Dev nD), fwd k (fwd (opp k) c) = c := by decide
theorem opp_opp : ∀ k : Fin 3, opp (opp k) = k := by decide

/-- Going `k + 1` places on permutes the devices. -/
def ring (k : Fin 3) : Dev nD ≃ Dev nD := ⟨fwd k, bwd k, bwd_fwd k, fwd_bwd k⟩

theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 1 c := Fin.ext (k0_dev4_eq c)
theorem dev5_eq (c : Dev nD) : (⟨k0_dev5 c, k0_dev5_lt c⟩ : Dev nD) = fwd 0 c := Fin.ext (k0_dev5_eq c)
theorem dev6_eq (c : Dev nD) : (⟨k0_dev6 c, k0_dev6_lt c⟩ : Dev nD) = fwd 2 c := Fin.ext (k0_dev6_eq c)

/-! ## Semaphores and cells -/

abbrev barS : Sem sig := barrier0
abbrev inS (k : Fin 3) : DmaSem sig := ⟨2 + k.val, by have := k.isLt; show 2 + k.val < 12; omega⟩
abbrev outS : DmaSem sig := ⟨5, by decide⟩
abbrev sendS (k : Fin 3) : DmaSem sig := ⟨6 + k.val, by have := k.isLt; show 6 + k.val < 12; omega⟩
abbrev recvS (k : Fin 3) : DmaSem sig := ⟨9 + k.val, by have := k.isLt; show 9 + k.val < 12; omega⟩

abbrev barCell (c : Dev nD) : GSem nD τ sig := ((c : Thread nD τ), .reg barS)
abbrev inCell (c : Dev nD) (k : Fin 3) : GSem nD τ sig := ((c : Thread nD τ), .dma (inS k))
abbrev outCell (c : Dev nD) : GSem nD τ sig := ((c : Thread nD τ), .dma outS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The kernel's own semaphores: three input copies, the output copy, three sends, three arrivals. -/
abbrev osem : Fin 10 → SemLoc sig := fun j => .dma ⟨2 + j.val, by have := j.isLt; show 2 + j.val < 12; omega⟩

/-! ## Slots -/

abbrev partM : Memref sig .tc .vmem S3x128x512 .bf16 := Memref.whole cc0_scratch4
abbrev commM : Memref sig .tc .vmem S3x128x512 .bf16 := Memref.whole cc0_scratch5

theorem slotInb (k : Fin 3) : ∀ a, (![k.val, 0, 0] : Fin 3 → ℕ) a + S1x128x512.size a ≤ S3x128x512.size a := by
  revert k; decide

/-- The rectangle of slot `k`. -/
abbrev slotR (k : Fin 3) : Rect S3x128x512 := Rect.unit (s := S3x128x512) ![k.val, 0, 0] S1x128x512.size (slotInb k)
abbrev pSlice (k : Fin 3) : Memref sig .tc .vmem S1x128x512 .bf16 := partM.slice (slotR k) (fun _ => rfl)
abbrev cSlice (k : Fin 3) : Memref sig .tc .vmem S1x128x512 .bf16 := commM.slice (slotR k) (fun _ => rfl)
abbrev pSlot (k : Fin 3) : Memref sig .tc .vmem S128x512 .bf16 := (pSlice k).squeeze S128x512 squeezes_S1x128x512_S128x512
abbrev cSlot (k : Fin 3) : Memref sig .tc .vmem S128x512 .bf16 := (cSlice k).squeeze S128x512 squeezes_S1x128x512_S128x512

theorem pSlot_set (k : Fin 3) : (pSlot k).view.set = (slotR k).set := by
  show ((View.slice (View.whole cc0_scratch4) (slotR k)).reshape _ _).set = _
  rw [View.set_reshape, View.set_slice_whole]
theorem cSlot_set (k : Fin 3) : (cSlot k).view.set = (slotR k).set := by
  show ((View.slice (View.whole cc0_scratch5) (slotR k)).reshape _ _).set = _
  rw [View.set_reshape, View.set_slice_whole]

theorem mem_slotR (k : Fin 3) (i : S3x128x512.Idx) : i ∈ (slotR k).set ↔ (i 0).val = k.val := by
  rw [Rect.mem_set_unit]
  constructor
  · intro h
    have h0 := h 0
    have e1 : (![k.val, 0, 0] : Fin 3 → ℕ) 0 = k.val := rfl
    have e2 : S1x128x512.size 0 = 1 := rfl
    rw [e1, e2] at h0
    omega
  · intro h a
    have hi := (i a).isLt
    match a with
    | 0 => exact ⟨le_of_eq h.symm, by rw [h]; exact Nat.lt_succ_self _⟩
    | 1 => exact ⟨Nat.zero_le _, by simpa using hi⟩
    | 2 => exact ⟨Nat.zero_le _, by simpa using hi⟩

theorem slots_cover : (slotR 0).set ∪ ((slotR 1).set ∪ (slotR 2).set) = (Finset.univ : Finset S3x128x512.Idx) := by
  ext i
  simp only [Finset.mem_union, mem_slotR, Finset.mem_univ, iff_true]
  have : (i 0).val < 3 := (i 0).isLt
  have e0 : (0 : Fin 3).val = 0 := rfl
  have e1 : (1 : Fin 3).val = 1 := rfl
  have e2 : (2 : Fin 3).val = 2 := rfl
  omega
theorem slots_disj {j k : Fin 3} (h : j ≠ k) : Disjoint (slotR j).set (slotR k).set := by
  rw [Finset.disjoint_left]
  intro i hj hk
  rw [mem_slotR] at hj hk
  exact h (Fin.ext (hj.symm.trans hk))

/-- A copy from a partial slot to a landing slot leaves the landing slot reading what the partial slot read. -/
theorem read_landed (k : Fin 3) (fd : (cSlot k).view.ty.Contents (Elt F)) (fs : (pSlot k).view.ty.Contents (Elt F)) :
    (cSlice k).view.read (Elt F) ((cSlot k).view.write (Elt F) fd ((pSlot k).view.read (Elt F) fs) Finset.univ)
      = (pSlice k).view.read (Elt F) fs := by
  have h := View.read_write_univ (v := (cSlot k).view) fd ((pSlot k).view.read (Elt F) fs)
  funext x
  have hx := congrFun h ((Shape.reshapeEquiv squeezes_S1x128x512_S128x512.numel_eq).symm x)
  have e1 : ∀ g : (cSlot k).view.ty.Contents (Elt F), (cSlot k).view.read (Elt F) g
      ((Shape.reshapeEquiv squeezes_S1x128x512_S128x512.numel_eq).symm x) = (cSlice k).view.read (Elt F) g x := fun g => by
    show (cSlice k).view.read (Elt F) g (Shape.reshapeEquiv _ ((Shape.reshapeEquiv _).symm x)) = _
    rw [Equiv.apply_symm_apply]
  have e2 : (pSlot k).view.read (Elt F) fs
      ((Shape.reshapeEquiv squeezes_S1x128x512_S128x512.numel_eq).symm x) = (pSlice k).view.read (Elt F) fs x := by
    show (pSlice k).view.read (Elt F) fs (Shape.reshapeEquiv _ ((Shape.reshapeEquiv _).symm x)) = _
    rw [Equiv.apply_symm_apply]
  rw [e1, e2] at hx
  exact hx

/-! ## The values the kernel computes -/

variable (m : (ℓ : Loc nD τ sig) → Buf (Elt F) ℓ)

/-- The buffers as the kernel finds them: after the host's transpose of the router's weights. -/
abbrev V₀ (c : Dev nD) : Valuation τ sig (Elt F) := fun b => m ((c : Dev nD), b)
abbrev V₁ (c : Dev nD) : Valuation τ sig (Elt F) := StableHlo.after hostOps0 (V₀ m c)

/-- Device `c`'s tokens, transposed router weights, routes, experts and shared weights. -/
abbrev xV (c : Dev nD) : Vec F S512x256 .f32 := V₁ m c main_arg0
abbrev rV (c : Dev nD) : Vec F S8x256 .f32 := V₁ m c main_v1
abbrev iV (c : Dev nD) : Vec F S512x1 .i32 := V₁ m c main_arg2
abbrev eV (c : Dev nD) : Vec F S2x256x512 .f32 := V₁ m c main_arg3
abbrev sV (c : Dev nD) : Vec F S256x512 .f32 := V₁ m c main_arg4

/-- The device's number as the kernel computes it. -/
abbrev wordOf (c : Dev nD) : BitVec 32 := Scalar.remsi (Scalar.divsi (Dev.word c) 1#32) 4#32

/-- The gate of each token for the device's first and second expert (zero if the token goes elsewhere). -/
def gate0 (c : Dev nD) : FVec F S512x1 .f32 := k0_pay5 (wordOf c) (xV m c) (k0_pay2 (rV m c)) (iV m c)
def gate1 (c : Dev nD) : FVec F S512x1 .f32 := k0_pay6 (wordOf c) (xV m c) (k0_pay2 (rV m c)) (iV m c)

/-- Both gates, as the two columns the kernel keeps them in. -/
def scales (c : Dev nD) : Vec F S512x2 .f32 :=
  VecWindow.put (VecWindow.put (fun _ => Scalar.ofBits .f32 0#32) ![0, 0] S512x1.size (gate0 m c)) ![0, 1] S512x1.size (gate1 m c)

/-- The device's two experts. -/
def exp0 (c : Dev nD) : Vec F S1x256x512 .f32 := VecWindow.window (eV m c) ![0, 0, 0] S1x256x512.size inb_S2x256x512_S1x256x512_0_0_0
def exp1 (c : Dev nD) : Vec F S1x256x512 .f32 := VecWindow.window (eV m c) ![1, 0, 0] S1x256x512.size inb_S2x256x512_S1x256x512_1_0_0

/-- The rows of the tokens, and of the two gates, that belong to the device `r` places on. -/
def xRows (c : Dev nD) (r : Fin 3) : Vec F S128x256 .f32 :=
  VecWindow.window (xV m c) (k0_off1 c (BitVec.ofNat 32 (1 + r.val))) S128x256.size (k0_off1_inb c r)
def sRows0 (c : Dev nD) (r : Fin 3) : Vec F S128x1 .f32 :=
  VecWindow.window (scales m c) (k0_off2 c (BitVec.ofNat 32 (1 + r.val))) S128x1.size (k0_off2_inb c r)
def sRows1 (c : Dev nD) (r : Fin 3) : Vec F S128x1 .f32 :=
  VecWindow.window (scales m c) (k0_off3 c (BitVec.ofNat 32 (1 + r.val))) S128x1.size (k0_off3_inb c r)

/-- What device `c` computes for the rows of the device `k + 1` places on. -/
def part (c : Dev nD) (k : Fin 3) : FVec F S1x128x512 .bf16 :=
  k0_pay10 (k0_pay7 (exp0 m c)) (k0_pay8 (exp1 m c)) (xRows m c k) (sRows0 m c k) (sRows1 m c k)

theorem part_0 (c : Dev nD) : part m c 0 = k0_pay10 (k0_pay7 (exp0 m c)) (k0_pay8 (exp1 m c)) (xRows m c 0) (sRows0 m c 0) (sRows1 m c 0) := rfl
theorem part_1 (c : Dev nD) : part m c 1 = k0_pay9 (exp0 m c) (exp1 m c) (xRows m c 1) (sRows0 m c 1) (sRows1 m c 1) := rfl
theorem part_2 (c : Dev nD) : part m c 2 = k0_pay11 (k0_pay7 (exp0 m c)) (k0_pay8 (exp1 m c)) (xRows m c 2) (sRows0 m c 2) (sRows1 m c 2) := rfl

/-- The device's own rows. -/
def xOwn (c : Dev nD) : Vec F S128x256 .f32 := VecWindow.window (xV m c) (k0_off4 c) S128x256.size (k0_off4_inb c)
def sOwn0 (c : Dev nD) : Vec F S128x1 .f32 := VecWindow.window (scales m c) (k0_off5 c) S128x1.size (k0_off5_inb c)
def sOwn1 (c : Dev nD) : Vec F S128x1 .f32 := VecWindow.window (scales m c) (k0_off6 c) S128x1.size (k0_off6_inb c)

/-- The shared product and the device's own experts on its own rows, then each partial that arrives added. -/
def acc0 (c : Dev nD) : FVec F S128x512 .f32 :=
  k0_pay12 (k0_pay7 (exp0 m c)) (k0_pay8 (exp1 m c)) (xOwn m c) (sV m c) (sOwn0 m c) (sOwn1 m c)
def acc2 (c : Dev nD) : FVec F S128x512 .f32 := k0_pay13 (acc0 m c) (part m (bwd 1 c) 1) (part m (bwd 0 c) 0)
/-- The device's block of the result. -/
def outV (c : Dev nD) : FVec F S128x512 .f32 := k0_pay1 (acc2 m c) (part m (bwd 2 c) 2)

end Cert.KernelIdeal.Talk

end
-- ==== Proof.IdealSched.lean ====
/- The kernel's protocol as a schedule of rounds: what each semaphore's units carry, who pays them, and the order of
   the waits. Every semaphore has one round: three units on a device's barrier semaphore, one completed copy on each of
   the others. -/
module

public import proofs.«01_k».proof.Proof.IdealCells

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's own ghost state, its duties named by distance along the ring. -/
abbrev UB : Type := URounds (GSem nD τ sig) (Fin 3)
/-- Beside the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Points-tos -/

/-- Buffer `b` of device `c`, whole, at `f`. -/
def pt (c : Dev nD) (b : Ref sig .tc) (f : b.ty.Contents (Elt F)) : sProp 𝕄 :=
  (Memref.whole b).view.loc (c : Thread nD τ) ↦[(Memref.whole b).view.set]{fullShare} f
/-- The same at contents not chosen. -/
def ptAny (c : Dev nD) (b : Ref sig .tc) : sProp 𝕄 := iprop(∃ f, pt c b f)

theorem pt_eq (c : Dev nD) (b : Ref sig .tc) (f : b.ty.Contents (Elt F)) :
    (pt c b f : sProp 𝕄) = ((c : Thread nD τ).loc b ↦{fullShare} f) := by
  unfold pt
  rw [show (Memref.whole b).view.set = Finset.univ from View.set_whole b]

/-- Slot `k` of device `c`'s partials, and of its landing buffer, at `f`. -/
def pPts (c : Dev nD) (k : Fin 3) (f : cc0_scratch4.ty.Contents (Elt F)) : sProp 𝕄 :=
  (pSlot k).view.loc (c : Thread nD τ) ↦[(pSlot k).view.set]{fullShare} f
def cPts (c : Dev nD) (k : Fin 3) (f : cc0_scratch5.ty.Contents (Elt F)) : sProp 𝕄 :=
  (cSlot k).view.loc (c : Thread nD τ) ↦[(cSlot k).view.set]{fullShare} f
def pAny (c : Dev nD) (k : Fin 3) : sProp 𝕄 := iprop(∃ f, pPts c k f)
def cAny (c : Dev nD) (k : Fin 3) : sProp 𝕄 := iprop(∃ f, cPts c k f)

/-! ## The schedule -/

/-- The credit of one slot's copy. -/
abbrev N : ℕ := (cSlot 0).view.dmaCredit
theorem N_pos : 0 < N := View.dmaCredit_pos _ (by decide)

/-- Paid to device `c`'s barrier semaphore by the device `h + 1` places on: slot `h` of that device's landing buffer, to
    send to, and that its arrival cell for that slot is open. -/
def barPay (c : Dev nD) (h : Fin 3) : sProp 𝕄 := iprop(cAny (fwd h c) h ∗ reached ER (recvCell (fwd h c) h) 0)
/-- Paid by an input copy: the scratch buffer filled, and the source back. -/
def inPay (c : Dev nD) : Fin 3 → sProp 𝕄
  | 0 => iprop(pt c cc0_scratch0 (xV m c) ∗ pt c main_arg0 (xV m c))
  | 1 => iprop(pt c cc0_scratch1 (eV m c) ∗ pt c main_arg3 (eV m c))
  | 2 => iprop(pt c cc0_scratch2 (sV m c) ∗ pt c main_arg4 (sV m c))
/-- Paid by the output copy. -/
def outPay (c : Dev nD) : sProp 𝕄 := iprop(pt c main_v2 (outV m c) ∗ pt c cc0_scratch6 (outV m c))
/-- Paid by a partial's arrival: the landing slot, holding what the device `k + 1` places before computed. -/
def recvPay (c : Dev nD) (k : Fin 3) : sProp 𝕄 :=
  iprop(∃ f : cc0_scratch5.ty.Contents (Elt F), ⌜(cSlice k).view.read (Elt F) f = part m (bwd k c) k⌝ ∗ cPts c k f)

/-- What the completed copy on DMA semaphore `n` pays. -/
def dmaPay (c : Dev nD) : ℕ → sProp 𝕄
  | 2 => inPay m c 0
  | 3 => inPay m c 1
  | 4 => inPay m c 2
  | 5 => outPay m c
  | 6 => pAny c 0
  | 7 => pAny c 1
  | 8 => pAny c 2
  | 9 => recvPay m c 0
  | 10 => recvPay m c 1
  | 11 => recvPay m c 2
  | _ => iprop(emp)

/-- And its units. -/
def dmaAmt : ℕ → ℕ
  | 2 => (Memref.whole cc0_scratch0).view.dmaCredit
  | 3 => (Memref.whole cc0_scratch1).view.dmaCredit
  | 4 => (Memref.whole cc0_scratch2).view.dmaCredit
  | 5 => (Memref.whole main_v2).view.dmaCredit
  | _ => N

theorem dmaAmt_pos (n : ℕ) : 0 < dmaAmt n := by
  unfold dmaAmt
  split
  · exact View.dmaCredit_pos _ (by decide)
  · exact View.dmaCredit_pos _ (by decide)
  · exact View.dmaCredit_pos _ (by decide)
  · exact View.dmaCredit_pos _ (by decide)
  · exact N_pos

/-- One round on every cell of a TensorCore: three barrier units, or one copy. -/
def rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => dmaAmt s.val
  payload g _ d := match g.2 with | .reg _ => barPay g.1.1 d | .dma s => dmaPay m g.1.1 s.val
  amount_pos g _ _ _ := by
    rcases g.2 with s | s
    · exact Nat.one_pos
    · exact dmaAmt_pos _

instance pt_storable (c : Dev nD) (b : Ref sig .tc) (f : b.ty.Contents (Elt F)) :
    BI.Storable (upEmb : UEmb _ 𝕄) (pt c b f) := by unfold pt; infer_instance
instance pAny_storable (c : Dev nD) (k : Fin 3) : BI.Storable (upEmb : UEmb _ 𝕄) (pAny (F := F) c k) := by
  unfold pAny pPts; infer_instance
instance cAny_storable (c : Dev nD) (k : Fin 3) : BI.Storable (upEmb : UEmb _ 𝕄) (cAny (F := F) c k) := by
  unfold cAny cPts; infer_instance
instance barPay_storable (c : Dev nD) (h : Fin 3) : BI.Storable (upEmb : UEmb _ 𝕄) (barPay (F := F) c h) := by
  unfold barPay; infer_instance
instance inPay_storable (c : Dev nD) (k : Fin 3) : BI.Storable (upEmb : UEmb _ 𝕄) (inPay m c k) := by
  match k with
  | 0 => unfold inPay; infer_instance
  | 1 => unfold inPay; infer_instance
  | 2 => unfold inPay; infer_instance
instance outPay_storable (c : Dev nD) : BI.Storable (upEmb : UEmb _ 𝕄) (outPay m c) := by
  unfold outPay; infer_instance
instance recvPay_storable (c : Dev nD) (k : Fin 3) : BI.Storable (upEmb : UEmb _ 𝕄) (recvPay m c k) := by
  unfold recvPay cPts; infer_instance
instance dmaPay_storable (c : Dev nD) (n : ℕ) : BI.Storable (upEmb : UEmb _ 𝕄) (dmaPay m c n) := by
  unfold dmaPay
  split <;> infer_instance

instance rd_payload_storable (g : GSem nD τ sig) (r : ℕ) (d : Fin 3) :
    BI.Storable (upEmb : UEmb _ 𝕄) ((rd (F := F) m).payload g r d) := by
  obtain ⟨t, sm⟩ := g
  rcases sm with s | s
  · exact barPay_storable t.1 d
  · exact dmaPay_storable m t.1 s.val

section Facts

variable (c : Dev nD)

theorem duties_bar : (rd (F := F) m).duties (barCell c) 0 = Finset.univ := by
  dsimp only [rd]; exact if_pos ⟨rfl, rfl⟩
theorem duties_dma (s : DmaSem sig) : (rd (F := F) m).duties ((c : Thread nD τ), .dma s) 0 = {0} := by
  dsimp only [rd]; exact if_pos ⟨rfl, rfl⟩
theorem duties_later (g : GSem nD τ sig) : ∀ r, 1 ≤ r → (rd (F := F) m).duties g r = ∅ :=
  fun r hr => if_neg fun h => by omega

theorem mem_bar (h : Fin 3) : h ∈ (rd (F := F) m).duties (barCell c) 0 := by rw [duties_bar]; exact Finset.mem_univ _
theorem mem_dma (s : DmaSem sig) : (0 : Fin 3) ∈ (rd (F := F) m).duties ((c : Thread nD τ), .dma s) 0 := by
  rw [duties_dma]; exact Finset.mem_singleton_self _

theorem amount_bar (h : Fin 3) : (rd (F := F) m).amount (barCell c) 0 h = 1 := rfl
theorem amount_dma (s : DmaSem sig) (d : Fin 3) : (rd (F := F) m).amount ((c : Thread nD τ), .dma s) 0 d = dmaAmt s.val := rfl
theorem payload_bar (h : Fin 3) : (rd (F := F) m).payload (barCell c) 0 h = barPay c h := rfl
theorem payload_dma (s : DmaSem sig) (d : Fin 3) : (rd (F := F) m).payload ((c : Thread nD τ), .dma s) 0 d = dmaPay m c s.val := rfl

theorem expect_bar : (rd (F := F) m).expect (barCell c) 0 = 3 := by
  unfold Schedule.expect Schedule.amountOf; rw [duties_bar]; rfl
theorem expect_dma (s : DmaSem sig) : (rd (F := F) m).expect ((c : Thread nD τ), .dma s) 0 = dmaAmt s.val := by
  unfold Schedule.expect Schedule.amountOf; rw [duties_dma, Finset.sum_singleton, amount_dma]

theorem sep3 (Φ : Fin 3 → sProp 𝕄) : bigSep Finset.univ Φ = iprop(Φ 0 ∗ Φ 1 ∗ Φ 2) :=
  bigSep_univ_eq_bigSepL [(0 : Fin 3), 1, 2] (by decide) (by decide) Φ

theorem rest_bar : bigSep ((rd (F := F) m).duties (barCell c) 0 \ ∅) (fun u => (rd (F := F) m).payload (barCell c) 0 u)
    = iprop(barPay c 0 ∗ barPay c 1 ∗ barPay c 2) := by
  rw [Finset.sdiff_empty, duties_bar, sep3]; rfl
theorem rest_dma (s : DmaSem sig) : bigSep ((rd (F := F) m).duties ((c : Thread nD τ), .dma s) 0 \ ∅)
      (fun u => (rd (F := F) m).payload ((c : Thread nD τ), .dma s) 0 u) = dmaPay m c s.val := by
  rw [Finset.sdiff_empty, duties_dma, bigSep_singleton, payload_dma]

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

end Facts

/-! ## What each device owes at launch, and the levels of the waits -/

/-- What is owed while the barrier is waited for: the three arrivals, the last paid at the left. -/
def oSend (c : Dev nD) : CellTallies nD τ sig Unit :=
  tallyAt (recvCell (fwd 2 c) 2) () N + tallyAt (recvCell (fwd 0 c) 0) () N + tallyAt (recvCell (fwd 1 c) 1) () N
/-- At launch: those, and a unit at every other device's barrier. -/
def O₀ (c : Dev nD) : CellTallies nD τ sig Unit :=
  oSend c + tallyAt (barCell (fwd 2 c)) () 1 + tallyAt (barCell (fwd 1 c)) () 1 + tallyAt (barCell (fwd 0 c)) () 1

/-- Every cell of a TensorCore has a level. -/
def L (g : GSem nD τ sig) : Finset Unit := if g.1.2 = .tc then {()} else ∅
/-- Barrier cells at 1, arrivals at 2, the rest at 0. -/
def lv (g : GSem nD τ sig) (_ : Unit) : ℕ := match g.2 with | .reg _ => 1 | .dma s => if 9 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem pos_add {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h
theorem pos_tally {g' g : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)

/-- Only arrivals at later devices are owed by then. -/
theorem oSend_pos {c : Dev nD} {g : GSem nD τ sig} {u : Unit} (h : 0 < oSend c g u) : ∃ k, g = recvCell (fwd k c) k := by
  unfold oSend at h
  rcases pos_add h with h | h
  · rcases pos_add h with h | h
    · exact ⟨2, pos_tally h⟩
    · exact ⟨0, pos_tally h⟩
  · exact ⟨1, pos_tally h⟩
theorem O₀_pos {c : Dev nD} {g : GSem nD τ sig} {u : Unit} (h : 0 < O₀ c g u) :
    (∃ k, g = recvCell (fwd k c) k) ∨ ∃ k, g = barCell (fwd k c) := by
  unfold O₀ at h
  rcases pos_add h with h | h
  · rcases pos_add h with h | h
    · rcases pos_add h with h | h
      · exact .inl (oSend_pos h)
      · exact .inr ⟨2, pos_tally h⟩
    · exact .inr ⟨1, pos_tally h⟩
  · exact .inr ⟨0, pos_tally h⟩

theorem lv_recv (c : Dev nD) (k : Fin 3) : lv (recvCell c k) () = 2 := if_pos (Nat.le_add_right _ _)

/-- A wait on a cell below the arrivals is allowed while only arrivals are owed. -/
theorem mayWait_low (c : Dev nD) (sm : SemLoc sig) (h : lv ((c : Thread nD τ), sm) () ≤ 1) :
    (levAts L lv : sProp 𝕄) ⊢ MayWait (c : Thread nD τ) sm () (oSend c) :=
  MayOwe.of_cut (L := L) (lev := lv) 1 (fun p hp => by rw [Finset.mem_singleton.mp hp, L_tc]; exact Finset.mem_singleton_self _)
    (fun g u hg => by obtain ⟨k, rfl⟩ := oSend_pos hg; rw [L_tc]; exact Finset.mem_singleton_self _)
    (fun p hp => by rw [Finset.mem_singleton.mp hp]; exact h)
    (fun g u hg => by obtain ⟨k, rfl⟩ := oSend_pos hg; rw [lv_recv]; decide)

theorem mayWait_bar (c : Dev nD) : (levAts L lv : sProp 𝕄) ⊢ MayWait (c : Thread nD τ) (.reg barS) () (oSend c) :=
  mayWait_low c _ (le_refl 1)
theorem mayWait_in (c : Dev nD) (k : Fin 3) : (levAts L lv : sProp 𝕄) ⊢ MayWait (c : Thread nD τ) (.dma (inS k)) () (oSend c) :=
  mayWait_low c _ (by
    show (if 9 ≤ 2 + k.val then 2 else 0) ≤ 1
    rw [if_neg (by omega)]; exact Nat.zero_le _)

/-! ## Ghost state -/

/-- The invariants of every cell, at the names the launch gave them. -/
def invs (K : GSem nD τ sig → ℕ) : sProp 𝕄 :=
  iprop((bigSep Finset.univ fun c : Dev nD => cellInv ER (rd m) (K (barCell c)) (barCell c))
    ∗ bigSep Finset.univ fun cj : Dev nD × Fin 10 => cellInv ER (rd m) (K ((cj.1 : Thread nD τ), osem cj.2)) ((cj.1 : Thread nD τ), osem cj.2))

instance invs_persistent (K : GSem nD τ sig → ℕ) : BI.Persistent (invs m K) := by unfold invs; infer_instance

theorem inv_bar (K : GSem nD τ sig → ℕ) (c : Dev nD) : invs m K ⊢ cellInv ER (rd m) (K (barCell c)) (barCell c) := by
  have h : (bigSep Finset.univ fun c : Dev nD => (cellInv ER (rd m) (K (barCell c)) (barCell c) : sProp 𝕄))
      ⊢ cellInv ER (rd m) (K (barCell c)) (barCell c) := bigSep_elim (Finset.mem_univ c)
  unfold invs
  iintro ⟨#H, -⟩
  iapply h; iexact H
theorem inv_own (K : GSem nD τ sig → ℕ) (c : Dev nD) (j : Fin 10) :
    invs m K ⊢ cellInv ER (rd m) (K ((c : Thread nD τ), osem j)) ((c : Thread nD τ), osem j) := by
  have h : (bigSep Finset.univ fun cj : Dev nD × Fin 10 =>
        (cellInv ER (rd m) (K ((cj.1 : Thread nD τ), osem cj.2)) ((cj.1 : Thread nD τ), osem cj.2) : sProp 𝕄))
      ⊢ cellInv ER (rd m) (K ((c : Thread nD τ), osem j)) ((c : Thread nD τ), osem j) := bigSep_elim (Finset.mem_univ (c, j))
  unfold invs
  iintro ⟨-, #H⟩
  iapply h; iexact H

end Cert.KernelIdeal.Talk

end
-- ==== Proof.IdealOps.lean ====
/- One rule for each kind of operation of the kernel: a signal, a copy started, a copy sent, a wait, a load, a store.
   Each takes what the operation needs of the protocol and gives what it leaves. -/
module

public import proofs.«01_k».proof.Proof.IdealSched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none

/-- Running a piece of device `c`'s program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for. -/
def ow (c : Dev nD) (O : CellTallies nD τ sig Unit) : sProp 𝕄 := iprop(∃ W, owes (c : Thread nD τ) O W)

/-- The `j`-th of the kernel's own cells on device `c`. -/
abbrev own (c : Dev nD) (j : Fin 10) : GSem nD τ sig := ((c : Thread nD τ), osem j)

/-- What stays true all along: the invariants, the levels, that the own cells are open and the other devices' barriers too. -/
def env (c : Dev nD) : sProp 𝕄 :=
  iprop(invs m K ∗ levAts L lv ∗ (bigSep Finset.univ fun j : Fin 10 => reached ER (own c j) 0)
    ∗ bigSep Finset.univ fun k : Fin 3 => reached ER (barCell (fwd k c)) 0)

instance env_persistent (c : Dev nD) : BI.Persistent (env m K c) := by unfold env; infer_instance

theorem env_invs (c : Dev nD) : env m K c ⊢ invs m K := by
  unfold env; iintro ⟨#H, -⟩; iexact H
theorem env_lev (c : Dev nD) : env m K c ⊢ (levAts L lv : sProp 𝕄) := by
  unfold env; iintro ⟨-, #H, -⟩; iexact H
theorem env_bar (c : Dev nD) : env m K c ⊢ cellInv ER (rd m) (K (barCell c)) (barCell c) := (env_invs m K c).trans (inv_bar m K c)
theorem env_bar' (c d : Dev nD) : env m K c ⊢ cellInv ER (rd m) (K (barCell d)) (barCell d) := (env_invs m K c).trans (inv_bar m K d)
theorem env_own (c d : Dev nD) (j : Fin 10) : env m K c ⊢ cellInv ER (rd m) (K (own d j)) (own d j) :=
  (env_invs m K c).trans (inv_own m K d j)
theorem env_open (c : Dev nD) (j : Fin 10) : env m K c ⊢ (reached ER (own c j) 0 : sProp 𝕄) := by
  have h : (bigSep Finset.univ fun j : Fin 10 => (reached ER (own c j) 0 : sProp 𝕄)) ⊢ reached ER (own c j) 0 := bigSep_elim (Finset.mem_univ j)
  unfold env; iintro ⟨-, -, #H, -⟩; iapply h; iexact H
theorem env_open_bar (c : Dev nD) (k : Fin 3) : env m K c ⊢ (reached ER (barCell (fwd k c)) 0 : sProp 𝕄) := by
  have h : (bigSep Finset.univ fun k : Fin 3 => (reached ER (barCell (fwd k c)) 0 : sProp 𝕄)) ⊢ reached ER (barCell (fwd k c)) 0 :=
    bigSep_elim (Finset.mem_univ k)
  unfold env; iintro ⟨-, -, -, #H⟩; iapply h; iexact H

theorem env_send (c : Dev nD) : ∀ k : Fin 3, env m K c ⊢ cellInv ER (rd m) (K (sendCell c k)) (sendCell c k)
  | 0 => env_own m K c c 4
  | 1 => env_own m K c c 5
  | 2 => env_own m K c c 6
theorem env_recv (c d : Dev nD) : ∀ k : Fin 3, env m K c ⊢ cellInv ER (rd m) (K (recvCell d k)) (recvCell d k)
  | 0 => env_own m K c d 7
  | 1 => env_own m K c d 8
  | 2 => env_own m K c d 9
theorem env_open_send (c : Dev nD) : ∀ k : Fin 3, env m K c ⊢ (reached ER (sendCell c k) 0 : sProp 𝕄)
  | 0 => env_open m K c 4
  | 1 => env_open m K c 5
  | 2 => env_open m K c 6
theorem env_open_recv (c : Dev nD) : ∀ k : Fin 3, env m K c ⊢ (reached ER (recvCell c k) 0 : sProp 𝕄)
  | 0 => env_open m K c 7
  | 1 => env_open m K c 8
  | 2 => env_open m K c 9

theorem pay_send (c : Dev nD) : ∀ k : Fin 3, (rd (F := F) m).payload (sendCell c k) 0 0 = pAny c k
  | 0 => rfl
  | 1 => rfl
  | 2 => rfl
theorem pay_recv (c : Dev nD) : ∀ k : Fin 3, (rd (F := F) m).payload (recvCell c k) 0 0 = recvPay m c k
  | 0 => rfl
  | 1 => rfl
  | 2 => rfl
theorem amt_send (c : Dev nD) : ∀ k : Fin 3, (rd (F := F) m).amount (sendCell c k) 0 0 = N
  | 0 => rfl
  | 1 => rfl
  | 2 => rfl
theorem amt_recv (c : Dev nD) : ∀ k : Fin 3, (rd (F := F) m).amount (recvCell c k) 0 0 = N
  | 0 => rfl
  | 1 => rfl
  | 2 => rfl
theorem slot_credit : ∀ k : Fin 3, (cSlot k).view.dmaCredit = N
  | 0 => rfl
  | 1 => rfl
  | 2 => rfl
theorem pslot_credit : ∀ k : Fin 3, (pSlot k).view.dmaCredit = N
  | 0 => rfl
  | 1 => rfl
  | 2 => rfl

variable {α : Type} {Q : α → sProp (MT nD τ sig Unit (Elt F) ℕ UU ℕ)}

/-- A unit to the barrier of the device `k + 1` places on: the own landing slot for what comes from there goes with it. -/
theorem run_signal (c n : Dev nD) (k : Fin 3) (hn : n = fwd k c) {O₁ : CellTallies nD τ sig Unit} (O : CellTallies nD τ sig Unit)
    (hO : O₁ = O + tallyAt (barCell (fwd k c)) () 1) {cont : PUnit → Prog (TpuEff nD τ sig (Elt F) Λ₀ .tc) α} :
    iprop(env m K c ∗ dutyTok ER (barCell (fwd k c)) 0 (opp k) ∗ cAny (F := F) c (opp k) ∗ ow (F := F) c O₁)
      ⊢ iprop((ow (F := F) c O -∗ run c (cont ⟨⟩) Q)
          -∗ run c (.op (.semSignal ((n, .tc) : Thread nD τ) barS (1#32 : BitVec 32).toInt) cont) Q) := by
  subst hn
  unfold ow
  iintro ⟨#He, Ht, Hc, ⟨%W, HO⟩⟩ Hk
  iapply (Rounds.wp_signal 𝒱₀ ER (rd m) (c : Thread nD τ) none (dst := (fwd k c : Thread nD τ)) (sem := barS) (r := 0) (d := opp k) (k' := 1)
      (κ := K (barCell (fwd k c))) (mem_bar m (fwd k c) (opp k)) (amount_bar m (fwd k c) (opp k)) () O hO) $$ [Ht Hc HO]
  · isplitr; · iapply (env_bar' m K c (fwd k c)); iexact He
    isplitl [HO]; · iexact HO
    isplitl [Ht]; · iexact Ht
    isplitl [Hc]
    · rw [payload_bar]; unfold barPay; rw [fwd_opp]
      isplitl [Hc]; · iexact Hc
      iapply (env_open_recv m K c (opp k)); iexact He
    · iapply (env_open_bar m K c k); iexact He
  iintro HO
  iapply Hk
  iexists W; iexact HO

/-- A local copy on the own cell `j`, whose duty is what it leaves. -/
theorem run_copy (c : Dev nD) (j : Fin 10) {sp sp' : Space} {s : Shape} {e : EltTy} {src : Memref sig .tc sp s e} {dst : Memref sig .tc sp' s e}
    {hsrc : src.view.WordExact} {hdst : dst.view.WordExact} {hsem : DmaTarget.Typed (nD := nD) (τ := τ) (p := .tc) sp (osem j) (.here dst)}
    {fs : Buf (Elt F) (src.view.loc (c : Thread nD τ))} {fd : Buf (Elt F) (dst.view.loc (c : Thread nD τ))}
    (hN : dst.view.dmaCredit = dmaAmt (2 + j.val))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dmaPay m c (2 + j.val))
    {cont : PUnit → Prog (TpuEff nD τ sig (Elt F) Λ₀ .tc) α} :
    iprop(env m K c ∗ dutyTok ER (own c j) 0 0 ∗ (src.view.loc (c : Thread nD τ) ↦[src.view.set]{fullShare} fs)
        ∗ (dst.view.loc (c : Thread nD τ) ↦[dst.view.set]{fullShare} fd))
      ⊢ iprop((cred (tallyAt (own c j) () (dmaAmt (2 + j.val))) -∗ run c (cont ⟨⟩) Q)
          -∗ run c (.op (.enqueueDma src (.here dst) (osem j) hsrc hdst hsem) cont) Q) := by
  iintro ⟨#He, Ht, Hs, Hd⟩ Hk
  iapply (Rounds.wp_copy_pointsTo 𝒱₀ ER (rd m) (c : Thread nD τ) none (src := src) (dst := dst) (sem := osem j) (q := fullShare)
      (fs := fs) (fd := fd) (r := 0) (d := 0) (κ := K (own c j)) (mem_dma m c _) () (dmaAmt (2 + j.val)) hN (amount_dma m c _ 0) hpay) $$ [Ht Hs Hd]
  · isplitr; · iapply (env_own m K c c j); iexact He
    isplitl [Hs]; · iexact Hs
    isplitl [Hd]; · iexact Hd
    isplitl [Ht]; · iexact Ht
    iapply (env_open m K c j); iexact He
  iexact Hk

/-- Partial `k` sent to the device `k + 1` places on, whose landing slot the barrier brought. -/
theorem run_send (c n : Dev nD) (k : Fin 3) (hn : n = fwd k c) {O₁ : CellTallies nD τ sig Unit} (O : CellTallies nD τ sig Unit)
    (hO : O₁ = O + tallyAt (recvCell (fwd k c) k) () N) {fs : cc0_scratch4.ty.Contents (Elt F)}
    (hfs : (pSlice k).view.read (Elt F) fs = part m c k)
    {hsc : (cSlot k : Memref sig (Dev.tc n : Thread nD τ).2.kind .vmem S128x512 .bf16).view.ref.isScScratch = false}
    {hsrc : (pSlot k).view.WordExact} {hdst : (cSlot k).view.WordExact}
    {hsem : DmaTarget.Typed .vmem (.dma (recvS k)) (.remote (Dev.tc n : Thread nD τ) (cSlot k : Memref sig (Dev.tc n : Thread nD τ).2.kind .vmem S128x512 .bf16) (.dma (sendS k)) hsc)}
    {cont : PUnit → Prog (TpuEff nD τ sig (Elt F) Λ₀ .tc) α} :
    iprop(env m K c ∗ dutyTok ER (sendCell c k) 0 0 ∗ dutyTok ER (recvCell (fwd k c) k) 0 0 ∗ barPay c k ∗ pPts c k fs ∗ ow (F := F) c O₁)
      ⊢ iprop(((cred (tallyAt (sendCell c k) () N) ∗ ow (F := F) c O) -∗ run c (cont ⟨⟩) Q)
          -∗ run c (.op (.enqueueDma (pSlot k) (.remote (Dev.tc n : Thread nD τ) (cSlot k) (.dma (sendS k)) hsc) (.dma (recvS k)) hsrc hdst hsem) cont) Q) := by
  subst hn
  unfold ow barPay cAny pPts cPts
  iintro ⟨#He, Ht1, Ht2, ⟨⟨%fd, Hd⟩, #Hr⟩, Hs, ⟨%W, HO⟩⟩ Hk
  iapply (Rounds.wp_send_pointsTo 𝒱₀ ER (rd m) (c : Thread nD τ) none (c' := (fwd k c : Thread nD τ)) (src := pSlot k) (dst := cSlot k)
      (sS := .dma (sendS k)) (sem := .dma (recvS k)) (q := fullShare) (fs := fs) (κ₁ := K (sendCell c k)) (κ₂ := K (recvCell (fwd k c) k))
      (r₁ := 0) (r₂ := 0) (d₁ := 0) (d₂ := 0) (fd := fd)
      (mem_dma m c _) (mem_dma m (fwd k c) _) () () N (slot_credit k) (amt_send m c k) (amt_recv m (fwd k c) k) O hO (W := W)
      (by rw [pay_send]; unfold pAny pPts; iintro H; iexists fs; iexact H)
      (by
        rw [pay_recv]; unfold recvPay cPts
        iintro H
        iexists ((cSlot k).view.write (Elt F) fd ((pSlot k).view.read (Elt F) fs) Finset.univ)
        isplitr
        · ipureintro; rw [read_landed, hfs, bwd_fwd]
        · iexact H)) $$ [Ht1 Ht2 Hd Hs HO]
  · isplitr; · iapply (env_send m K c k); iexact He
    isplitr; · iapply (env_recv m K c (fwd k c) k); iexact He
    isplitl [Hs]; · iexact Hs
    isplitl [Hd]; · iexact Hd
    isplitl [HO]; · iexact HO
    isplitl [Ht1]; · iexact Ht1
    isplitr; · iapply (env_open_send m K c k); iexact He
    isplitl [Ht2]; · iexact Ht2
    iexact Hr
  iintro ⟨Hc, HO⟩
  iapply Hk
  isplitl [Hc]; · iexact Hc
  iexists W; iexact HO

/-- The wait for the own cell `j`'s copy, after which its semaphore is at rest. -/
theorem run_wait (c : Dev nD) (j : Fin 10) {O : CellTallies nD τ sig Unit} {sp sp' : Space} {s s' : Shape} {e e' : EltTy}
    {src : Memref sig .tc sp' s' e'} {dst : Memref sig .tc sp s e} {hsrc : src.view.WordExact} {hdst : dst.view.WordExact}
    (hN : dst.view.dmaCredit = dmaAmt (2 + j.val)) {cont : PUnit → Prog (TpuEff nD τ sig (Elt F) Λ₀ .tc) α} :
    iprop(env m K c ∗ cred (tallyAt (own c j) () (dmaAmt (2 + j.val))) ∗ ow (F := F) c O ∗ MayWait (c : Thread nD τ) (osem j) () O
        ∗ atPos ER (own c j) 0 ∅ 0)
      ⊢ iprop(((ow (F := F) c O ∗ semVal (own c j) 0 ∗ dmaPay m c (2 + j.val)) -∗ run c (cont ⟨⟩) Q)
          -∗ run c (.op (.waitDma2 ⟨2 + j.val, by have := j.isLt; show 2 + j.val < 12; omega⟩ src dst hsrc hdst) cont) Q) := by
  unfold ow
  iintro ⟨#He, Hc, ⟨%W, HO⟩, Hmw, Ha⟩ Hk
  iapply (Rounds.wp_wait_rest_token 𝒱₀ ER (rd m) (c : Thread nD τ) none (κ := K (own c j)) (sm := osem j)
      (wpE_waitDma2_eq (src := src) (dst := dst) 𝒱₀ (c : Thread nD τ) none Set.univ) (Set.mem_univ _) () (O := O) (W := W) (R := 0) (m := 0) (T := ∅)
      ((Nat.zero_add _).trans ((show dst.view.dmaCredit = (rd (F := F) m).expect (own c j) 0 from hN.trans (expect_dma m c ⟨2 + j.val, by have := j.isLt; show 2 + j.val < 12; omega⟩).symm)))) $$ [Hc HO Hmw Ha]
  · isplitr; · iapply (env_own m K c c j); iexact He
    isplitl [Hc]; · rw [hN]; iexact Hc
    isplitl [HO]; · iexact HO
    isplitl [Hmw]; · iexact Hmw
    iexact Ha
  iintro ⟨HO, Ha, -, Hp⟩
  ihave Hp' := (Entails.of_eq (rest_dma m c _)) $$ Hp
  imod (close m (K (own c j)) (own c j)) $$ [Ha] with Hv
  · isplitr; · iapply (env_own m K c c j); iexact He
    iexact Ha
  iapply Hk
  isplitl [HO]; · iexists _; iexact HO
  isplitl [Hv]; · iexact Hv
  iexact Hp'

/-- The wait at the barrier brings every other device's landing slot. -/
theorem run_barrier (c : Dev nD) {cont : PUnit → Prog (TpuEff nD τ sig (Elt F) Λ₀ .tc) α} :
    iprop(env m K c ∗ cred (tallyAt (barCell c) () 3) ∗ ow (F := F) c (oSend c) ∗ atPos ER (barCell c) 0 ∅ 0)
      ⊢ iprop(((ow (F := F) c (oSend c) ∗ semVal (barCell c) 0 ∗ barPay (F := F) c 0 ∗ barPay (F := F) c 1 ∗ barPay (F := F) c 2) -∗ run c (cont ⟨⟩) Q)
          -∗ run c (.op (.semWait barS (3#32 : BitVec 32).toInt) cont) Q) := by
  unfold ow
  iintro ⟨#He, Hc, ⟨%W, HO⟩, Ha⟩ Hk
  iapply (Rounds.wp_wait_rest_token 𝒱₀ ER (rd m) (c : Thread nD τ) none (κ := K (barCell c)) (sm := .reg barS) (k' := 3)
      (wpE_semWait_eq 𝒱₀ (c : Thread nD τ) none Set.univ) (Set.mem_univ _) () (O := oSend c) (W := W) (R := 0) (m := 0) (T := ∅)
      ((Nat.zero_add 3).trans (expect_bar m c).symm)) $$ [Hc HO Ha]
  · isplitr; · iapply (env_bar m K c); iexact He
    isplitl [Hc]; · iexact Hc
    isplitl [HO]; · iexact HO
    isplitr; · iapply (mayWait_bar c); iapply (env_lev m K c); iexact He
    iexact Ha
  iintro ⟨HO, Ha, -, Hp⟩
  ihave Hp' := (Entails.of_eq (rest_bar m c)) $$ Hp
  imod (close m (K (barCell c)) (barCell c)) $$ [Ha] with Hv
  · isplitr; · iapply (env_bar m K c); iexact He
    iexact Ha
  iapply Hk
  isplitl [HO]; · iexists _; iexact HO
  isplitl [Hv]; · iexact Hv
  iexact Hp'

/-- The end of a piece of the program. -/
theorem run_ret (c : Dev nD) (a : α) : Q a ⊢ run c (.ret a) Q := by
  unfold run; rw [wp_ret]; iintro H; imodintro; iexact H

/-- A load, at what it reads. -/
theorem run_load (c : Dev nD) {cs : CoreSpace} {s : Shape} {e : EltTy} (M : Memref sig .tc cs s e) {r : LoadRect s} {hl : M.view.LoadsAt r}
    {f : Buf (Elt F) (M.view.loc (c : Thread nD τ))} {S : Finset (Idx (M.view.loc (c : Thread nD τ)))} {w : r.shape.Idx → Elt F e}
    (hS : M.view.setOn r.set ⊆ S) (hw : M.view.readAt (Elt F) r f = w)
    {cont : (r.shape.Idx → Elt F e) → Prog (TpuEff nD τ sig (Elt F) Λ₀ .tc) α} :
    (M.view.loc (c : Thread nD τ) ↦[S]{fullShare} f)
      ⊢ iprop(((M.view.loc (c : Thread nD τ) ↦[S]{fullShare} f) -∗ run c (cont w) Q)
        -∗ run c (.op (.load M r hl) cont) Q) := by
  subst hw
  exact wp_load 𝒱₀ (c : Thread nD τ) none Set.univ (m := M) hS

/-- A store of every element of a rectangle, at what the buffer holds then. -/
theorem run_store (c : Dev nD) {cs : CoreSpace} {s : Shape} {e : EltTy} (M : Memref sig .tc cs s e) {r : Rect s} {w : r.shape.Idx → Elt F e}
    {hx : (M.access r).Stores Finset.univ} {hm : (Finset.univ : Finset r.shape.Idx) = Finset.univ ∨ ∀ a, r.stride a = 1}
    {f f' : Buf (Elt F) ((M.access r).loc (c : Thread nD τ))} {S : Finset (Idx ((M.access r).loc (c : Thread nD τ)))}
    (hS : (M.access r).setOn Finset.univ ⊆ S) (hf : (M.access r).write (Elt F) f w Finset.univ = f')
    {cont : PUnit → Prog (TpuEff nD τ sig (Elt F) Λ₀ .tc) α} :
    ((M.access r).loc (c : Thread nD τ) ↦[S]{fullShare} f)
      ⊢ iprop((((M.access r).loc (c : Thread nD τ) ↦[S]{fullShare} f') -∗ run c (cont ⟨⟩) Q)
        -∗ run c (.op (.store M r w Finset.univ hx hm) cont) Q) := by
  subst hf
  exact wp_store 𝒱₀ (c : Thread nD τ) none Set.univ (m := M) hS

/-- A load through a buffer's own view reads elements of the view. -/
theorem sub_set {cs : CoreSpace} {s : Shape} {e : EltTy} (M : Memref sig .tc cs s e) (r : LoadRect s) : M.view.setOn r.set ⊆ M.view.set :=
  View.setOn_subset_set _ _

end Cert.KernelIdeal.Talk

end
-- ==== Proof.IdealParts.lean ====
/- The kernel's body, part by part: what each part takes of the device's resources and of the protocol, and what it
   leaves, with the values it hands to the next. -/
module

public import proofs.«01_k».proof.Proof.IdealOps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

/-! ## The parts at the arguments the kernel is launched with -/

/-- The barrier semaphore as the first part returns it. -/
abbrev barArr : Sems sig S_ := SemArray.scalar (sig.barrier 0 rfl)

abbrev body1 := k0_part1 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
abbrev body2 (v2 : BitVec 32) (v24 : Vec F S512x256 .f32) (v26 : FVec F S8x256 .f32) := k0_part2 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v24 v26
abbrev body3 (d0 : Dev nD) (v2 : BitVec 32) (v3 : Sems sig S_) := k0_part3 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v3
abbrev body4 (d0 : Dev nD) (v2 : BitVec 32) (v69 : FVec F S256x512 .bf16) (v72 : FVec F S256x512 .bf16) := k0_part4 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v69 v72
abbrev body5 (d0 : Dev nD) (v2 : BitVec 32) (v69 : FVec F S256x512 .bf16) (v72 : FVec F S256x512 .bf16) := k0_part5 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v69 v72
abbrev body6 (d0 : Dev nD) (v69 : FVec F S256x512 .bf16) (v72 : FVec F S256x512 .bf16) (v74 : BitVec 32) (v166 : BitVec 32) (v168 : Vec F S128x256 .f32) := k0_part6 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v69 v72 v74 v166 v168
abbrev body7 (v105 : BitVec 32) (v186 : FVec F S128x512 .f32) := k0_part7 (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v105 v186
abbrev body := cc0_body (F := F) (Memref.whole main_arg0) (Memref.isWhole_whole _) (Memref.whole cc0_stg0_0) (Memref.isWhole_whole _) (Memref.whole cc0_stg1_0) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10

/-! ## Copies of whole buffers -/

theorem copied0 (c : Dev nD) (f : cc0_scratch0.ty.Contents (Elt F)) :
    iprop(((Memref.whole cc0_scratch0).view.loc (c : Thread nD τ) ↦[(Memref.whole cc0_scratch0).view.set]{fullShare}
          ((Memref.whole cc0_scratch0).view.write (Elt F) f ((Memref.whole main_arg0).view.read (Elt F) (xV m c)) Finset.univ))
        ∗ pt c main_arg0 (xV m c)) ⊢ dmaPay m c 2 := by
  show _ ⊢ inPay m c 0
  unfold inPay pt
  rw [show (Memref.whole cc0_scratch0).view.write (Elt F) f ((Memref.whole main_arg0).view.read (Elt F) (xV m c)) Finset.univ = xV m c from
    View.write_whole_univ cc0_scratch0 f (xV m c)]
theorem copied1 (c : Dev nD) (f : cc0_scratch1.ty.Contents (Elt F)) :
    iprop(((Memref.whole cc0_scratch1).view.loc (c : Thread nD τ) ↦[(Memref.whole cc0_scratch1).view.set]{fullShare}
          ((Memref.whole cc0_scratch1).view.write (Elt F) f ((Memref.whole main_arg3).view.read (Elt F) (eV m c)) Finset.univ))
        ∗ pt c main_arg3 (eV m c)) ⊢ dmaPay m c 3 := by
  show _ ⊢ inPay m c 1
  unfold inPay pt
  rw [show (Memref.whole cc0_scratch1).view.write (Elt F) f ((Memref.whole main_arg3).view.read (Elt F) (eV m c)) Finset.univ = eV m c from
    View.write_whole_univ cc0_scratch1 f (eV m c)]
theorem copied2 (c : Dev nD) (f : cc0_scratch2.ty.Contents (Elt F)) :
    iprop(((Memref.whole cc0_scratch2).view.loc (c : Thread nD τ) ↦[(Memref.whole cc0_scratch2).view.set]{fullShare}
          ((Memref.whole cc0_scratch2).view.write (Elt F) f ((Memref.whole main_arg4).view.read (Elt F) (sV m c)) Finset.univ))
        ∗ pt c main_arg4 (sV m c)) ⊢ dmaPay m c 4 := by
  show _ ⊢ inPay m c 2
  unfold inPay pt
  rw [show (Memref.whole cc0_scratch2).view.write (Elt F) f ((Memref.whole main_arg4).view.read (Elt F) (sV m c)) Finset.univ = sV m c from
    View.write_whole_univ cc0_scratch2 f (sV m c)]
theorem copied3 (c : Dev nD) (f : main_v2.ty.Contents (Elt F)) :
    iprop(((Memref.whole main_v2).view.loc (c : Thread nD τ) ↦[(Memref.whole main_v2).view.set]{fullShare}
          ((Memref.whole main_v2).view.write (Elt F) f ((Memref.whole cc0_scratch6).view.read (Elt F) (outV m c)) Finset.univ))
        ∗ pt c cc0_scratch6 (outV m c)) ⊢ dmaPay m c 5 := by
  show _ ⊢ outPay m c
  unfold outPay pt
  rw [show (Memref.whole main_v2).view.write (Elt F) f ((Memref.whole cc0_scratch6).view.read (Elt F) (outV m c)) Finset.univ = outV m c from
    View.write_whole_univ main_v2 f (outV m c)]

theorem hz2 : (![0, 0] : Fin 2 → ℕ) = fun _ => 0 := funext fun a => by fin_cases a <;> rfl

/-- The first part: the units to the other devices' barriers, the three input copies started, the tokens and the router's
    weights read. -/
theorem run1 (c : Dev nD)
    (Q : (Σ' (d0 : Dev nD) (v2 : BitVec 32) (v3 : Sems sig S_) (v24 : Vec F S512x256 .f32), FVec F S8x256 .f32) → sProp (MT nD τ sig Unit (Elt F) ℕ UU ℕ)) :
    iprop(env m K c
        ∗ (dutyTok ER (barCell (fwd 0 c)) 0 2 ∗ dutyTok ER (barCell (fwd 1 c)) 0 1 ∗ dutyTok ER (barCell (fwd 2 c)) 0 0)
        ∗ (cAny (F := F) c 0 ∗ cAny (F := F) c 1 ∗ cAny (F := F) c 2) ∗ ow (F := F) c (O₀ c)
        ∗ (dutyTok ER (own c 0) 0 0 ∗ dutyTok ER (own c 1) 0 0 ∗ dutyTok ER (own c 2) 0 0)
        ∗ (pt c main_arg0 (xV m c) ∗ pt c main_arg3 (eV m c) ∗ pt c main_arg4 (sV m c))
        ∗ (ptAny (F := F) c cc0_scratch0 ∗ ptAny (F := F) c cc0_scratch1 ∗ ptAny (F := F) c cc0_scratch2)
        ∗ atPos ER (own c 0) 0 ∅ 0 ∗ pt c cc0_stg0_0 (rV m c))
      ⊢ iprop((((cred (tallyAt (own c 1) () (dmaAmt 3)) ∗ cred (tallyAt (own c 2) () (dmaAmt 4))) ∗ ow (F := F) c (oSend c) ∗ semVal (own c 0) 0
            ∗ (pt c cc0_scratch0 (xV m c) ∗ pt c main_arg0 (xV m c)) ∗ pt c cc0_stg0_0 (rV m c))
          -∗ Q ⟨c, wordOf c, barArr, xV m c, k0_pay2 (rV m c)⟩)
        -∗ run c (body1 (F := F)) Q) := by
  unfold body1
  rw [k0_part1_eq_skeleton]
  unfold k0_part1_skel
  simp only [semSignalWord, Prog.lift, Prog.bind_op, Prog.bind_ret, Prog.pure_eq_ret, Prog.bind_assoc, wp_deviceId]
  unfold ptAny
  iintro ⟨#He, ⟨Hb0, Hb1, Hb2⟩, ⟨Hc0, Hc1, Hc2⟩, HO, ⟨Ht0, Ht1, Ht2⟩, ⟨Hx, Hee, Hs⟩, ⟨⟨%f0, H0⟩, ⟨%f1, H1⟩, ⟨%f2, H2⟩⟩, Ha, Hr⟩ Hk
  iapply (run_signal m K c _ 0 (dev1_eq c) (oSend c + tallyAt (barCell (fwd 2 c)) () 1 + tallyAt (barCell (fwd 1 c)) () 1) rfl) $$ [Hb0 Hc2 HO]
  · isplitr; · iexact He
    isplitl [Hb0]; · iexact Hb0
    isplitl [Hc2]; · iexact Hc2
    iexact HO
  iintro HO
  iapply (run_signal m K c _ 1 (dev2_eq c) (oSend c + tallyAt (barCell (fwd 2 c)) () 1) rfl) $$ [Hb1 Hc1 HO]
  · isplitr; · iexact He
    isplitl [Hb1]; · iexact Hb1
    isplitl [Hc1]; · iexact Hc1
    iexact HO
  iintro HO
  iapply (run_signal m K c _ 2 (dev3_eq c) (oSend c) rfl) $$ [Hb2 Hc0 HO]
  · isplitr; · iexact He
    isplitl [Hb2]; · iexact Hb2
    isplitl [Hc0]; · iexact Hc0
    iexact HO
  iintro HO
  unfold pt
  iapply (run_copy m K c 0 (src := Memref.whole main_arg0) (dst := Memref.whole cc0_scratch0) (fs := xV m c) (fd := f0) rfl (copied0 m c f0)) $$ [Ht0 Hx H0]
  · isplitr; · iexact He
    isplitl [Ht0]; · iexact Ht0
    isplitl [Hx] <;> iassumption
  iintro Hq0
  iapply (run_copy m K c 1 (src := Memref.whole main_arg3) (dst := Memref.whole cc0_scratch1) (fs := eV m c) (fd := f1) rfl (copied1 m c f1)) $$ [Ht1 Hee H1]
  · isplitr; · iexact He
    isplitl [Ht1]; · iexact Ht1
    isplitl [Hee] <;> iassumption
  iintro Hq1
  iapply (run_copy m K c 2 (src := Memref.whole main_arg4) (dst := Memref.whole cc0_scratch2) (fs := sV m c) (fd := f2) rfl (copied2 m c f2)) $$ [Ht2 Hs H2]
  · isplitr; · iexact He
    isplitl [Ht2]; · iexact Ht2
    isplitl [Hs] <;> iassumption
  iintro Hq2
  iapply (run_wait m K c 0 (O := oSend c) (src := Memref.whole main_arg0) (dst := Memref.whole cc0_scratch0) rfl) $$ [Hq0 HO Ha]
  · isplitr; · iexact He
    isplitl [Hq0]; · iexact Hq0
    isplitl [HO]; · iexact HO
    isplitr; · iapply (mayWait_in c 0); iapply (env_lev m K c); iexact He
    iexact Ha
  iintro ⟨HO, Hv, Hp⟩
  ihave Hp' := (Entails.of_eq (show dmaPay m c (2 + (0 : Fin 10).val) = iprop(pt c cc0_scratch0 (xV m c) ∗ pt c main_arg0 (xV m c)) from rfl)) $$ Hp
  icases Hp' with ⟨H0, Hx⟩
  unfold pt
  iapply (run_load c (Memref.whole cc0_scratch0) (w := xV m c) (f := xV m c) (S := (Memref.whole cc0_scratch0).view.set) (sub_set _ _)
    (Memref.readAt_unit_zero (Elt F) cc0_scratch0 hz2 _ _)) $$ [H0]
  · iexact H0
  iintro H0
  iapply (run_load c (Memref.whole cc0_stg0_0) (w := rV m c) (f := rV m c) (S := (Memref.whole cc0_stg0_0).view.set) (sub_set _ _)
    (Memref.readAt_unit_zero (Elt F) cc0_stg0_0 hz2 _ _)) $$ [Hr]
  · iexact Hr
  iintro Hr
  iapply (run_ret c)
  iapply Hk
  isplitl [Hq1 Hq2]; · isplitl [Hq1] <;> iassumption
  isplitl [HO]; · iexact HO
  isplitl [Hv]; · iexact Hv
  isplitl [H0 Hx]; · isplitl [H0] <;> iassumption
  iexact Hr

/-! ## Slots and gates -/

theorem part_sub (k : Fin 3) : (partM.access (slotR k)).setOn Finset.univ ⊆ (pSlot k).view.set := by
  rw [pSlot_set]
  refine (View.setOn_subset_set _ _).trans ?_
  rw [show (partM.access (slotR k)).set = (slotR k).set from View.set_slice_whole cc0_scratch4 (slotR k)]
theorem part_sub' (k : Fin 3) : partM.view.setOn (slotR k).toLoadRect.set ⊆ (pSlot k).view.set := by
  rw [pSlot_set, show partM.view.setOn (slotR k).toLoadRect.set = (slotR k).set from
    (View.set_slice (View.whole cc0_scratch4) (slotR k)).symm.trans (View.set_slice_whole cc0_scratch4 (slotR k))]
theorem comm_sub' (k : Fin 3) : commM.view.setOn (slotR k).toLoadRect.set ⊆ (cSlot k).view.set := by
  rw [cSlot_set, show commM.view.setOn (slotR k).toLoadRect.set = (slotR k).set from
    (View.set_slice (View.whole cc0_scratch5) (slotR k)).symm.trans (View.set_slice_whole cc0_scratch5 (slotR k))]

variable {α : Type} {Q : α → sProp (MT nD τ sig Unit (Elt F) ℕ UU ℕ)}

/-- A slot of the partials read (nothing is known of it) and then stored: it reads what was stored. -/
theorem run_slot (c : Dev nD) (k : Fin 3) {w : FVec F S1x128x512 .bf16} {hl : partM.view.LoadsAt (slotR k).toLoadRect}
    {hx : (partM.access (slotR k)).Stores Finset.univ}
    {hm : (Finset.univ : Finset (slotR k).shape.Idx) = Finset.univ ∨ ∀ a, (slotR k).stride a = 1}
    {cont : PUnit → Prog (TpuEff nD τ sig (Elt F) Λ₀ .tc) α} :
    pAny (F := F) c k
      ⊢ iprop(((∃ fs, ⌜(pSlice k).view.read (Elt F) fs = w⌝ ∗ pPts c k fs) -∗ run c (cont ⟨⟩) Q)
        -∗ run c (.op (.load partM (slotR k).toLoadRect hl) fun _ => .op (.store partM (slotR k) w Finset.univ hx hm) cont) Q) := by
  unfold pAny pPts
  iintro ⟨%f, H⟩ Hk
  iapply (run_load c partM (f := f) (S := (pSlot k).view.set) (part_sub' k) rfl) $$ [H]
  · iexact H
  iintro H
  iapply (run_store c partM (r := slotR k) (f := f) (S := (pSlot k).view.set) (part_sub k) rfl) $$ [H]
  · iexact H
  iintro H
  iapply Hk
  iexists _
  isplitr
  · ipureintro
    exact Memref.read_slice_write partM (slotInb k) rfl (slotInb k) f w
  · iexact H

/-- A landing slot read after the arrival. -/
theorem run_landed (c : Dev nD) (k : Fin 3) {hl : commM.view.LoadsAt (slotR k).toLoadRect}
    {cont : ((slotR k).shape.Idx → Elt F .bf16) → Prog (TpuEff nD τ sig (Elt F) Λ₀ .tc) α} :
    recvPay m c k
      ⊢ iprop((cAny (F := F) c k -∗ run c (cont (part m (bwd k c) k)) Q)
        -∗ run c (.op (.load commM (slotR k).toLoadRect hl) cont) Q) := by
  unfold recvPay cAny cPts
  iintro ⟨%f, %hf, H⟩ Hk
  iapply (run_load c commM (f := f) (S := (cSlot k).view.set) (w := part m (bwd k c) k) (comm_sub' k)
    (show commM.view.readAt (Elt F) (slotR k).toLoadRect f = part m (bwd k c) k from hf)) $$ [H]
  · iexact H
  iintro H
  iapply Hk
  iexists f; iexact H

/-- Two columns put over two columns: what was there before does not matter. -/
theorem put_put_cover {β : Type} (x x' : S512x2.Idx → β) (a b : S512x1.Idx → β) :
    VecWindow.put (VecWindow.put x ![0, 0] S512x1.size a) ![0, 1] S512x1.size b
      = VecWindow.put (VecWindow.put x' ![0, 0] S512x1.size a) ![0, 1] S512x1.size b := by
  funext y
  unfold VecWindow.put
  by_cases h1 : ∀ a, (![0, 1] : Fin 2 → ℕ) a ≤ (y a).val ∧ (y a).val < (![0, 1] : Fin 2 → ℕ) a + S512x1.size a
  · rw [dif_pos h1, dif_pos h1]
  · rw [dif_neg h1, dif_neg h1]
    by_cases h0 : ∀ a, (![0, 0] : Fin 2 → ℕ) a ≤ (y a).val ∧ (y a).val < (![0, 0] : Fin 2 → ℕ) a + S512x1.size a
    · rw [dif_pos h0, dif_pos h0]
    · exfalso
      have y0 : (y 0).val < 512 := (y 0).isLt
      have y1 : (y 1).val < 2 := (y 1).isLt
      have hy : (y 1).val = 0 ∨ (y 1).val = 1 := by omega
      rcases hy with hy | hy
      · exact h0 fun a => match a with
          | 0 => ⟨Nat.zero_le _, by show (y 0).val < 0 + 512; omega⟩
          | 1 => ⟨Nat.zero_le _, by show (y 1).val < 0 + 1; omega⟩
      · exact h1 fun a => match a with
          | 0 => ⟨Nat.zero_le _, by show (y 0).val < 0 + 512; omega⟩
          | 1 => ⟨by show 1 ≤ (y 1).val; omega, by show (y 1).val < 1 + 1; omega⟩

/-- After both columns are stored the gates are there, whatever the buffer held. -/
theorem scales_eq (c : Dev nD) (f : cc0_scratch3.ty.Contents (Elt F)) :
    ((Memref.whole cc0_scratch3).access (Rect.unit (s := S512x2) ![0, 1] S512x1.size inb_S512x2_S512x1_0_1)).write (Elt F)
        (((Memref.whole cc0_scratch3).access (Rect.unit (s := S512x2) ![0, 0] S512x1.size inb_S512x2_S512x1_0_0)).write (Elt F) f (gate0 m c) Finset.univ)
        (gate1 m c) Finset.univ = scales m c := by
  have h := View.read_writes_cons_put (Val := Elt F) (Memref.whole cc0_scratch3).view f inb_S512x2_S512x1_0_1 (gate1 m c)
    [⟨Rect.unit (s := S512x2) ![0, 0] S512x1.size inb_S512x2_S512x1_0_0, gate0 m c⟩] rfl
  have h' := View.read_writes_cons_put (Val := Elt F) (Memref.whole cc0_scratch3).view f inb_S512x2_S512x1_0_0 (gate0 m c) [] rfl
  rw [h'] at h
  exact h.trans (put_put_cover _ _ _ _)

theorem gates_sub (r : Rect S512x2) : ((Memref.whole cc0_scratch3).access r).setOn Finset.univ ⊆ (Memref.whole cc0_scratch3).view.set := by
  rw [show (Memref.whole cc0_scratch3).view.set = Finset.univ from View.set_whole _]; exact Finset.subset_univ _

/-- Both columns of gates stored, each read (nothing is known of it) before. -/
theorem run_gates (c : Dev nD) {hl0 : (Memref.whole cc0_scratch3).view.LoadsAt (Rect.unit (s := S512x2) ![0, 0] S512x1.size inb_S512x2_S512x1_0_0).toLoadRect}
    {hl1 : (Memref.whole cc0_scratch3).view.LoadsAt (Rect.unit (s := S512x2) ![0, 1] S512x1.size inb_S512x2_S512x1_0_1).toLoadRect}
    {hx0 : ((Memref.whole cc0_scratch3).access (Rect.unit (s := S512x2) ![0, 0] S512x1.size inb_S512x2_S512x1_0_0)).Stores Finset.univ}
    {hx1 : ((Memref.whole cc0_scratch3).access (Rect.unit (s := S512x2) ![0, 1] S512x1.size inb_S512x2_S512x1_0_1)).Stores Finset.univ}
    {hm0 : (Finset.univ : Finset (Rect.unit (s := S512x2) ![0, 0] S512x1.size inb_S512x2_S512x1_0_0).shape.Idx) = Finset.univ
      ∨ ∀ a, (Rect.unit (s := S512x2) ![0, 0] S512x1.size inb_S512x2_S512x1_0_0).stride a = 1}
    {hm1 : (Finset.univ : Finset (Rect.unit (s := S512x2) ![0, 1] S512x1.size inb_S512x2_S512x1_0_1).shape.Idx) = Finset.univ
      ∨ ∀ a, (Rect.unit (s := S512x2) ![0, 1] S512x1.size inb_S512x2_S512x1_0_1).stride a = 1}
    {cont : PUnit → Prog (TpuEff nD τ sig (Elt F) Λ₀ .tc) α} :
    ptAny (F := F) c cc0_scratch3
      ⊢ iprop((pt c cc0_scratch3 (scales m c) -∗ run c (cont ⟨⟩) Q)
        -∗ run c (.op (.load (Memref.whole cc0_scratch3) (Rect.unit (s := S512x2) ![0, 0] S512x1.size inb_S512x2_S512x1_0_0).toLoadRect hl0) fun _ =>
            .op (.store (Memref.whole cc0_scratch3) (Rect.unit (s := S512x2) ![0, 0] S512x1.size inb_S512x2_S512x1_0_0) (gate0 m c) Finset.univ hx0 hm0) fun _ =>
            .op (.load (Memref.whole cc0_scratch3) (Rect.unit (s := S512x2) ![0, 1] S512x1.size inb_S512x2_S512x1_0_1).toLoadRect hl1) fun _ =>
            .op (.store (Memref.whole cc0_scratch3) (Rect.unit (s := S512x2) ![0, 1] S512x1.size inb_S512x2_S512x1_0_1) (gate1 m c) Finset.univ hx1 hm1) cont) Q) := by
  unfold ptAny pt
  iintro ⟨%f, H⟩ Hk
  iapply (run_load c (Memref.whole cc0_scratch3) (f := f) (sub_set _ _) rfl) $$ [H]
  · iexact H
  iintro H
  iapply (run_store c (Memref.whole cc0_scratch3) (f := f) (gates_sub _) rfl) $$ [H]
  · iexact H
  iintro H
  iapply (run_load c (Memref.whole cc0_scratch3) (sub_set _ _) rfl) $$ [H]
  · iexact H
  iintro H
  iapply (run_store c (Memref.whole cc0_scratch3) (gates_sub _) (scales_eq m c f)) $$ [H]
  · iexact H
  iexact Hk

theorem pay1_eq (c : Dev nD) : dmaPay m c (2 + (1 : Fin 10).val) = iprop(pt c cc0_scratch1 (eV m c) ∗ pt c main_arg3 (eV m c)) := rfl
theorem pay2_eq (c : Dev nD) : dmaPay m c (2 + (2 : Fin 10).val) = iprop(pt c cc0_scratch2 (sV m c) ∗ pt c main_arg4 (sV m c)) := rfl
theorem pay3_eq (c : Dev nD) : dmaPay m c (2 + (3 : Fin 10).val) = iprop(pt c main_v2 (outV m c) ∗ pt c cc0_scratch6 (outV m c)) := rfl

/-- The second part: the routes read, both gates stored, the experts' copy waited for. -/
theorem run2 (c : Dev nD) (Q : PUnit → sProp (MT nD τ sig Unit (Elt F) ℕ UU ℕ)) :
    iprop(env m K c ∗ pt c cc0_stg1_0 (iV m c) ∗ ptAny (F := F) c cc0_scratch3 ∗ cred (tallyAt (own c 1) () (dmaAmt 3)) ∗ ow (F := F) c (oSend c)
        ∗ atPos ER (own c 1) 0 ∅ 0)
      ⊢ iprop(((pt c cc0_stg1_0 (iV m c) ∗ pt c cc0_scratch3 (scales m c) ∗ ow (F := F) c (oSend c) ∗ semVal (own c 1) 0
            ∗ (pt c cc0_scratch1 (eV m c) ∗ pt c main_arg3 (eV m c))) -∗ Q ⟨⟩)
        -∗ run c (body2 (F := F) (wordOf c) (xV m c) (k0_pay2 (rV m c))) Q) := by
  unfold body2
  rw [k0_part2_eq_skeleton]
  unfold k0_part2_skel
  simp only [Prog.lift, Prog.bind_op, Prog.bind_ret, Prog.pure_eq_ret, Prog.bind_assoc]
  iintro ⟨#He, Hi, H3, Hq, HO, Ha⟩ Hk
  iapply (run_load c (Memref.whole cc0_stg1_0) (w := iV m c) (f := iV m c) (S := (Memref.whole cc0_stg1_0).view.set) (sub_set _ _)
    (Memref.readAt_unit_zero (Elt F) cc0_stg1_0 hz2 _ _)) $$ [Hi]
  · unfold pt; iexact Hi
  iintro Hi
  iapply (run_gates m c) $$ [H3]
  · iexact H3
  iintro H3
  iapply (run_wait m K c 1 (O := oSend c) (src := Memref.whole main_arg3) (dst := Memref.whole cc0_scratch1) rfl) $$ [Hq HO Ha]
  · isplitr; · iexact He
    isplitl [Hq]; · iexact Hq
    isplitl [HO]; · iexact HO
    isplitr; · iapply (mayWait_in c 1); iapply (env_lev m K c); iexact He
    iexact Ha
  iintro ⟨HO, Hv, Hp⟩
  iapply (run_ret c)
  iapply Hk
  isplitl [Hi]; · unfold pt; iexact Hi
  isplitl [H3]; · iexact H3
  isplitl [HO]; · iexact HO
  isplitl [Hv]; · iexact Hv
  iapply (Entails.of_eq (pay1_eq m c)) $$ Hp

end Cert.KernelIdeal.Talk

end
-- ==== Proof.IdealSends.lean ====
/- The kernel's body, continued: the sends and their waits, and the whole body's run. -/
module

public import proofs.«01_k».proof.Proof.IdealParts

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

variable {α : Type} {Q : α → sProp (MT nD τ sig Unit (Elt F) ℕ UU ℕ)}

/-! ## Rows and slots -/

/-- The tokens and the gates as the later parts read them. -/
def rows (c : Dev nD) : sProp 𝕄 := iprop(pt c cc0_scratch0 (xV m c) ∗ pt c cc0_scratch3 (scales m c))

/-- A partial's slot once computed. -/
def pFull (c : Dev nD) (k : Fin 3) : sProp 𝕄 := iprop(∃ fs, ⌜(pSlice k).view.read (Elt F) fs = part m c k⌝ ∗ pPts c k fs)

/-- The rows of the device `k + 1` places on, read. -/
theorem run_rows (c : Dev nD) (k : Fin 3)
    {hl0 : (Memref.whole cc0_scratch0).view.LoadsAt (Rect.unit (s := S512x256) (k0_off1 c (BitVec.ofNat 32 (1 + k.val))) S128x256.size (k0_off1_inb c k)).toLoadRect}
    {hl1 : (Memref.whole cc0_scratch3).view.LoadsAt (Rect.unit (s := S512x2) (k0_off2 c (BitVec.ofNat 32 (1 + k.val))) S128x1.size (k0_off2_inb c k)).toLoadRect}
    {hl2 : (Memref.whole cc0_scratch3).view.LoadsAt (Rect.unit (s := S512x2) (k0_off3 c (BitVec.ofNat 32 (1 + k.val))) S128x1.size (k0_off3_inb c k)).toLoadRect}
    {cont : Vec F S128x256 .f32 → Vec F S128x1 .f32 → Vec F S128x1 .f32 → Prog (TpuEff nD τ sig (Elt F) Λ₀ .tc) α} :
    rows m c
      ⊢ iprop((rows m c -∗ run c (cont (xRows m c k) (sRows0 m c k) (sRows1 m c k)) Q)
        -∗ run c (.op (.load (Memref.whole cc0_scratch0) (Rect.unit (s := S512x256) (k0_off1 c (BitVec.ofNat 32 (1 + k.val))) S128x256.size (k0_off1_inb c k)).toLoadRect hl0) fun a =>
            .op (.load (Memref.whole cc0_scratch3) (Rect.unit (s := S512x2) (k0_off2 c (BitVec.ofNat 32 (1 + k.val))) S128x1.size (k0_off2_inb c k)).toLoadRect hl1) fun b =>
            .op (.load (Memref.whole cc0_scratch3) (Rect.unit (s := S512x2) (k0_off3 c (BitVec.ofNat 32 (1 + k.val))) S128x1.size (k0_off3_inb c k)).toLoadRect hl2) fun d =>
            cont a b d) Q) := by
  unfold rows pt
  iintro ⟨H0, H3⟩ Hk
  iapply (run_load c (Memref.whole cc0_scratch0) (f := xV m c) (w := xRows m c k) (sub_set _ _) rfl) $$ [H0]
  · iexact H0
  iintro H0
  iapply (run_load c (Memref.whole cc0_scratch3) (f := scales m c) (w := sRows0 m c k) (sub_set _ _) rfl) $$ [H3]
  · iexact H3
  iintro H3
  iapply (run_load c (Memref.whole cc0_scratch3) (f := scales m c) (w := sRows1 m c k) (sub_set _ _) rfl) $$ [H3]
  · iexact H3
  iintro H3
  iapply Hk
  isplitl [H0]; · iexact H0
  iexact H3

/-- The third part: the experts read, the barrier waited for, the partial for the device opposite computed. -/
theorem run3 (c : Dev nD) (v2 : BitVec 32)
    (Q : (Σ' (v69 : FVec F S256x512 .bf16) (v72 : FVec F S256x512 .bf16), BitVec 32) → sProp (MT nD τ sig Unit (Elt F) ℕ UU ℕ)) :
    iprop(env m K c ∗ pt c cc0_scratch1 (eV m c) ∗ rows m c ∗ cred (tallyAt (barCell c) () 3) ∗ ow (F := F) c (oSend c)
        ∗ atPos ER (barCell c) 0 ∅ 0 ∗ pAny (F := F) c 1)
      ⊢ iprop(((pt c cc0_scratch1 (eV m c) ∗ rows m c ∗ ow (F := F) c (oSend c) ∗ semVal (barCell c) 0
            ∗ (barPay (F := F) c 0 ∗ barPay (F := F) c 1 ∗ barPay (F := F) c 2) ∗ pFull m c 1)
          -∗ Q ⟨k0_pay7 (exp0 m c), k0_pay8 (exp1 m c), Scalar.remsi (Scalar.addi v2 2#32) 4#32⟩)
        -∗ run c (body3 (F := F) c v2 barArr) Q) := by
  unfold body3
  rw [k0_part3_eq_skeleton]
  unfold k0_part3_skel
  simp only [semWaitWord, Prog.lift, Prog.bind_op, Prog.bind_ret, Prog.pure_eq_ret, Prog.bind_assoc]
  iintro ⟨#He, H1, Hr, Hq, HO, Ha, Hp⟩ Hk
  unfold pt
  iapply (run_load c (Memref.whole cc0_scratch1) (f := eV m c) (w := exp0 m c) (sub_set _ _) rfl) $$ [H1]
  · iexact H1
  iintro H1
  iapply (run_load c (Memref.whole cc0_scratch1) (f := eV m c) (w := exp1 m c) (sub_set _ _) rfl) $$ [H1]
  · iexact H1
  iintro H1
  iapply (run_barrier m K c) $$ [Hq HO Ha]
  · isplitr; · iexact He
    isplitl [Hq]; · iexact Hq
    isplitl [HO]; · iexact HO
    iexact Ha
  iintro ⟨HO, Hv, Hb⟩
  iapply (run_rows m c 1) $$ [Hr]
  · iexact Hr
  iintro Hr
  iapply (run_slot c 1 (w := part m c 1)) $$ [Hp]
  · iexact Hp
  iintro Hp
  iapply (run_ret c)
  iapply Hk
  isplitl [H1]; · iexact H1
  isplitl [Hr]; · iexact Hr
  isplitl [HO]; · iexact HO
  isplitl [Hv]; · iexact Hv
  isplitl [Hb]; · iexact Hb
  unfold pFull; iexact Hp

/-- A computed partial sent. -/
theorem run_send' (c n : Dev nD) (k : Fin 3) (hn : n = fwd k c) {O₁ : CellTallies nD τ sig Unit} (O : CellTallies nD τ sig Unit)
    (hO : O₁ = O + tallyAt (recvCell (fwd k c) k) () N)
    {hsc : (cSlot k : Memref sig (Dev.tc n : Thread nD τ).2.kind .vmem S128x512 .bf16).view.ref.isScScratch = false}
    {hsrc : (pSlot k).view.WordExact} {hdst : (cSlot k).view.WordExact}
    {hsem : DmaTarget.Typed .vmem (.dma (recvS k)) (.remote (Dev.tc n : Thread nD τ) (cSlot k : Memref sig (Dev.tc n : Thread nD τ).2.kind .vmem S128x512 .bf16) (.dma (sendS k)) hsc)}
    {cont : PUnit → Prog (TpuEff nD τ sig (Elt F) Λ₀ .tc) α} :
    iprop(env m K c ∗ dutyTok ER (sendCell c k) 0 0 ∗ dutyTok ER (recvCell (fwd k c) k) 0 0 ∗ barPay c k ∗ pFull m c k ∗ ow (F := F) c O₁)
      ⊢ iprop(((cred (tallyAt (sendCell c k) () N) ∗ ow (F := F) c O) -∗ run c (cont ⟨⟩) Q)
          -∗ run c (.op (.enqueueDma (pSlot k) (.remote (Dev.tc n : Thread nD τ) (cSlot k) (.dma (sendS k)) hsc) (.dma (recvS k)) hsrc hdst hsem) cont) Q) := by
  unfold pFull
  iintro ⟨#He, Ht1, Ht2, Hb, ⟨%fs, %hfs, Hs⟩, HO⟩ Hk
  iapply (run_send m K c n k hn O hO hfs) $$ [Ht1 Ht2 Hb Hs HO]
  · isplitr; · iexact He
    isplitl [Ht1]; · iexact Ht1
    isplitl [Ht2]; · iexact Ht2
    isplitl [Hb]; · iexact Hb
    isplitl [Hs]; · iexact Hs
    iexact HO
  iexact Hk

/-- The fourth part: that partial sent, the one for the next device computed. -/
theorem run4 (c : Dev nD) (v2 : BitVec 32) (Q : BitVec 32 → sProp (MT nD τ sig Unit (Elt F) ℕ UU ℕ)) :
    iprop(env m K c ∗ (dutyTok ER (sendCell c 1) 0 0 ∗ dutyTok ER (recvCell (fwd 1 c) 1) 0 0) ∗ barPay (F := F) c 1 ∗ pFull m c 1
        ∗ ow (F := F) c (oSend c) ∗ rows m c ∗ pAny (F := F) c 0)
      ⊢ iprop(((cred (tallyAt (sendCell c 1) () N) ∗ ow (F := F) c (tallyAt (recvCell (fwd 2 c) 2) () N + tallyAt (recvCell (fwd 0 c) 0) () N)
            ∗ rows m c ∗ pFull m c 0) -∗ Q (Scalar.remsi (Scalar.addi v2 1#32) 4#32))
        -∗ run c (body4 (F := F) c v2 (k0_pay7 (exp0 m c)) (k0_pay8 (exp1 m c))) Q) := by
  unfold body4
  rw [k0_part4_eq_skeleton]
  unfold k0_part4_skel
  simp only [Prog.lift, Prog.bind_op, Prog.bind_ret, Prog.pure_eq_ret, Prog.bind_assoc]
  iintro ⟨#He, ⟨Ht1, Ht2⟩, Hb, Hs, HO, Hr, Hp⟩ Hk
  iapply (run_send' m K c _ 1 (dev4_eq c) (tallyAt (recvCell (fwd 2 c) 2) () N + tallyAt (recvCell (fwd 0 c) 0) () N) rfl) $$ [Ht1 Ht2 Hb Hs HO]
  · isplitr; · iexact He
    isplitl [Ht1]; · iexact Ht1
    isplitl [Ht2]; · iexact Ht2
    isplitl [Hb]; · iexact Hb
    isplitl [Hs]; · iexact Hs
    iexact HO
  iintro ⟨Hc, HO⟩
  iapply (run_rows m c 0) $$ [Hr]
  · iexact Hr
  iintro Hr
  iapply (run_slot c 0 (w := part m c 0)) $$ [Hp]
  · iexact Hp
  iintro Hp
  iapply (run_ret c)
  iapply Hk
  isplitl [Hc]; · iexact Hc
  isplitl [HO]; · iexact HO
  isplitl [Hr]; · iexact Hr
  unfold pFull; iexact Hp

/-- The fifth part: that one sent, the last one computed and sent, the own rows read. -/
theorem run5 (c : Dev nD) (v2 : BitVec 32)
    (Q : (Σ' (v136 : BitVec 32) (v166 : BitVec 32), Vec F S128x256 .f32) → sProp (MT nD τ sig Unit (Elt F) ℕ UU ℕ)) :
    iprop(env m K c ∗ (dutyTok ER (sendCell c 0) 0 0 ∗ dutyTok ER (recvCell (fwd 0 c) 0) 0 0)
        ∗ (dutyTok ER (sendCell c 2) 0 0 ∗ dutyTok ER (recvCell (fwd 2 c) 2) 0 0)
        ∗ (barPay (F := F) c 0 ∗ barPay (F := F) c 2) ∗ pFull m c 0
        ∗ ow (F := F) c (tallyAt (recvCell (fwd 2 c) 2) () N + tallyAt (recvCell (fwd 0 c) 0) () N) ∗ rows m c ∗ pAny (F := F) c 2)
      ⊢ iprop(((cred (tallyAt (sendCell c 0) () N) ∗ cred (tallyAt (sendCell c 2) () N) ∗ ow (F := F) c 0 ∗ rows m c)
          -∗ Q ⟨Scalar.remsi (Scalar.addi v2 3#32) 4#32, Scalar.muli v2 128#32, xOwn m c⟩)
        -∗ run c (body5 (F := F) c v2 (k0_pay7 (exp0 m c)) (k0_pay8 (exp1 m c))) Q) := by
  unfold body5
  rw [k0_part5_eq_skeleton]
  unfold k0_part5_skel
  simp only [Prog.lift, Prog.bind_op, Prog.bind_ret, Prog.pure_eq_ret, Prog.bind_assoc]
  iintro ⟨#He, ⟨Ht1, Ht2⟩, ⟨Ht3, Ht4⟩, ⟨Hb0, Hb2⟩, Hs, HO, Hr, Hp⟩ Hk
  iapply (run_send' m K c _ 0 (dev5_eq c) (tallyAt (recvCell (fwd 2 c) 2) () N) rfl) $$ [Ht1 Ht2 Hb0 Hs HO]
  · isplitr; · iexact He
    isplitl [Ht1]; · iexact Ht1
    isplitl [Ht2]; · iexact Ht2
    isplitl [Hb0]; · iexact Hb0
    isplitl [Hs]; · iexact Hs
    iexact HO
  iintro ⟨Hc, HO⟩
  iapply (run_rows m c 2) $$ [Hr]
  · iexact Hr
  iintro Hr
  iapply (run_slot c 2 (w := part m c 2)) $$ [Hp]
  · iexact Hp
  iintro Hs
  iapply (run_send' m K c _ 2 (dev6_eq c) 0 (by rw [zero_add])) $$ [Ht3 Ht4 Hb2 Hs HO]
  · isplitr; · iexact He
    isplitl [Ht3]; · iexact Ht3
    isplitl [Ht4]; · iexact Ht4
    isplitl [Hb2]; · iexact Hb2
    isplitl [Hs]; · unfold pFull; iexact Hs
    iexact HO
  iintro ⟨Hc', HO⟩
  unfold rows pt
  icases Hr with ⟨H0, H3⟩
  iapply (run_load c (Memref.whole cc0_scratch0) (f := xV m c) (w := xOwn m c) (sub_set _ _) rfl) $$ [H0]
  · iexact H0
  iintro H0
  iapply (run_ret c)
  iapply Hk
  isplitl [Hc]; · iexact Hc
  isplitl [Hc']; · iexact Hc'
  isplitl [HO]; · iexact HO
  isplitl [H0]; · iexact H0
  iexact H3

end Cert.KernelIdeal.Talk

end
-- ==== Proof.IdealBody.lean ====
/- The kernel's body, continued: the arrivals added, and the whole body's run. -/
module

public import proofs.«01_k».proof.Proof.IdealSends

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

variable {α : Type} {Q : α → sProp (MT nD τ sig Unit (Elt F) ℕ UU ℕ)}

/-- A wait once nothing is owed. -/
theorem run_wait0 (c : Dev nD) (j : Fin 10) {P : sProp (MT nD τ sig Unit (Elt F) ℕ UU ℕ)} (hP : dmaPay m c (2 + j.val) = P)
    {sp sp' : Space} {s s' : Shape} {e e' : EltTy}
    {src : Memref sig .tc sp' s' e'} {dst : Memref sig .tc sp s e} {hsrc : src.view.WordExact} {hdst : dst.view.WordExact}
    (hN : dst.view.dmaCredit = dmaAmt (2 + j.val)) {cont : PUnit → Prog (TpuEff nD τ sig (Elt F) Λ₀ .tc) α} :
    iprop(env m K c ∗ cred (tallyAt (own c j) () (dmaAmt (2 + j.val))) ∗ ow (F := F) c 0 ∗ atPos ER (own c j) 0 ∅ 0)
      ⊢ iprop(((ow (F := F) c 0 ∗ semVal (own c j) 0 ∗ P) -∗ run c (cont ⟨⟩) Q)
          -∗ run c (.op (.waitDma2 ⟨2 + j.val, by have := j.isLt; show 2 + j.val < 12; omega⟩ src dst hsrc hdst) cont) Q) := by
  subst hP
  iintro ⟨#He, Hc, HO, Ha⟩ Hk
  iapply (run_wait m K c j (O := 0) hN) $$ [Hc HO Ha]
  · isplitr; · iexact He
    isplitl [Hc]; · iexact Hc
    isplitl [HO]; · iexact HO
    isplitr; · rw [MayWait_zero]; iempintro
    iexact Ha
  iexact Hk

/-- The sixth part: the shared weights and the own gates read, the own rows' sum formed, the first send done. -/
theorem run6 (c : Dev nD) (w w' : BitVec 32) (Q : FVec F S128x512 .f32 → sProp (MT nD τ sig Unit (Elt F) ℕ UU ℕ)) :
    iprop(env m K c ∗ cred (tallyAt (own c 2) () (dmaAmt 4)) ∗ ow (F := F) c 0 ∗ atPos ER (own c 2) 0 ∅ 0 ∗ rows m c
        ∗ cred (tallyAt (sendCell c 1) () N) ∗ atPos ER (own c 5) 0 ∅ 0)
      ⊢ iprop(((ow (F := F) c 0 ∗ semVal (own c 2) 0 ∗ (pt c cc0_scratch2 (sV m c) ∗ pt c main_arg4 (sV m c)) ∗ rows m c
            ∗ semVal (own c 5) 0 ∗ pAny (F := F) c 1) -∗ Q (acc0 m c))
        -∗ run c (body6 (F := F) c (k0_pay7 (exp0 m c)) (k0_pay8 (exp1 m c)) w w' (xOwn m c)) Q) := by
  unfold body6 acc0
  rw [k0_part6_eq_skeleton]
  unfold k0_part6_skel
  simp only [Prog.lift, Prog.bind_op, Prog.bind_ret, Prog.pure_eq_ret, Prog.bind_assoc]
  iintro ⟨#He, Hq, HO, Ha, Hr, Hq', Ha'⟩ Hk
  iapply (run_wait0 m K c 2 (pay2_eq m c) (src := Memref.whole main_arg4) (dst := Memref.whole cc0_scratch2) rfl) $$ [Hq HO Ha]
  · isplitr; · iexact He
    isplitl [Hq]; · iexact Hq
    isplitl [HO]; · iexact HO
    iexact Ha
  iintro ⟨HO, Hv, ⟨H2, H4⟩⟩
  unfold rows pt
  icases Hr with ⟨H0, H3⟩
  iapply (run_load c (Memref.whole cc0_scratch2) (w := sV m c) (f := sV m c) (S := (Memref.whole cc0_scratch2).view.set) (sub_set _ _)
    (Memref.readAt_unit_zero (Elt F) cc0_scratch2 hz2 _ _)) $$ [H2]
  · iexact H2
  iintro H2
  iapply (run_load c (Memref.whole cc0_scratch3) (f := scales m c) (w := sOwn0 m c) (sub_set _ _) rfl) $$ [H3]
  · iexact H3
  iintro H3
  iapply (run_load c (Memref.whole cc0_scratch3) (f := scales m c) (w := sOwn1 m c) (sub_set _ _) rfl) $$ [H3]
  · iexact H3
  iintro H3
  iapply (run_wait0 m K c 5 (P := pAny c 1) rfl (src := cSlot 1) (dst := pSlot 1) rfl) $$ [Hq' HO Ha']
  · isplitr; · iexact He
    isplitl [Hq']; · iexact Hq'
    isplitl [HO]; · iexact HO
    iexact Ha'
  iintro ⟨HO, Hv', Hp⟩
  iapply (run_ret c)
  iapply Hk
  isplitl [HO]; · iexact HO
  isplitl [Hv]; · iexact Hv
  isplitl [H2 H4]; · isplitl [H2]; · iexact H2
                     iexact H4
  isplitl [H0 H3]; · isplitl [H0]; · iexact H0
                     iexact H3
  isplitl [Hv']; · iexact Hv'
  iexact Hp

/-- The seventh part: two arrivals waited for and added, the second send done. -/
theorem run7 (c : Dev nD) (w : BitVec 32) (Q : FVec F S128x512 .f32 → sProp (MT nD τ sig Unit (Elt F) ℕ UU ℕ)) :
    iprop(env m K c ∗ ow (F := F) c 0 ∗ (cred (tallyAt (recvCell c 1) () N) ∗ atPos ER (own c 8) 0 ∅ 0)
        ∗ (cred (tallyAt (sendCell c 0) () N) ∗ atPos ER (own c 4) 0 ∅ 0) ∗ (cred (tallyAt (recvCell c 0) () N) ∗ atPos ER (own c 7) 0 ∅ 0))
      ⊢ iprop(((ow (F := F) c 0 ∗ (semVal (own c 8) 0 ∗ semVal (own c 4) 0 ∗ semVal (own c 7) 0) ∗ (cAny (F := F) c 1 ∗ cAny (F := F) c 0)
            ∗ pAny (F := F) c 0) -∗ Q (acc2 m c))
        -∗ run c (body7 (F := F) w (acc0 m c)) Q) := by
  unfold body7 acc2
  rw [k0_part7_eq_skeleton]
  unfold k0_part7_skel
  simp only [Prog.lift, Prog.bind_op, Prog.bind_ret, Prog.pure_eq_ret, Prog.bind_assoc]
  iintro ⟨#He, HO, ⟨Hq1, Ha1⟩, ⟨Hq2, Ha2⟩, ⟨Hq3, Ha3⟩⟩ Hk
  iapply (run_wait0 m K c 8 (P := recvPay m c 1) rfl (src := pSlot 1) (dst := cSlot 1) rfl) $$ [Hq1 HO Ha1]
  · isplitr; · iexact He
    isplitl [Hq1]; · iexact Hq1
    isplitl [HO]; · iexact HO
    iexact Ha1
  iintro ⟨HO, Hv1, Hc1⟩
  iapply (run_landed m c 1) $$ [Hc1]
  · iexact Hc1
  iintro Hc1
  iapply (run_wait0 m K c 4 (P := pAny c 0) rfl (src := cSlot 0) (dst := pSlot 0) rfl) $$ [Hq2 HO Ha2]
  · isplitr; · iexact He
    isplitl [Hq2]; · iexact Hq2
    isplitl [HO]; · iexact HO
    iexact Ha2
  iintro ⟨HO, Hv2, Hp⟩
  iapply (run_wait0 m K c 7 (P := recvPay m c 0) rfl (src := pSlot 0) (dst := cSlot 0) rfl) $$ [Hq3 HO Ha3]
  · isplitr; · iexact He
    isplitl [Hq3]; · iexact Hq3
    isplitl [HO]; · iexact HO
    iexact Ha3
  iintro ⟨HO, Hv3, Hc0⟩
  iapply (run_landed m c 0) $$ [Hc0]
  · iexact Hc0
  iintro Hc0
  iapply (run_ret c)
  iapply Hk
  isplitl [HO]; · iexact HO
  isplitl [Hv1 Hv2 Hv3]
  · isplitl [Hv1]; · iexact Hv1
    isplitl [Hv2]; · iexact Hv2
    iexact Hv3
  isplitl [Hc1 Hc0]
  · isplitl [Hc1]; · iexact Hc1
    iexact Hc0
  iexact Hp

/-! ## The whole body -/

/-- What the body starts with: the protocol's state, the buffers, nothing filled yet. -/
def bodyPre (c : Dev nD) : sProp 𝕄 :=
  iprop(env m K c
    ∗ (dutyTok ER (barCell (fwd 0 c)) 0 2 ∗ dutyTok ER (barCell (fwd 1 c)) 0 1 ∗ dutyTok ER (barCell (fwd 2 c)) 0 0)
    ∗ (dutyTok ER (own c 0) 0 0 ∗ dutyTok ER (own c 1) 0 0 ∗ dutyTok ER (own c 2) 0 0 ∗ dutyTok ER (own c 3) 0 0)
    ∗ (dutyTok ER (sendCell c 0) 0 0 ∗ dutyTok ER (sendCell c 1) 0 0 ∗ dutyTok ER (sendCell c 2) 0 0)
    ∗ (dutyTok ER (recvCell (fwd 0 c) 0) 0 0 ∗ dutyTok ER (recvCell (fwd 1 c) 1) 0 0 ∗ dutyTok ER (recvCell (fwd 2 c) 2) 0 0)
    ∗ (cred (tallyAt (barCell c) () 3) ∗ cred (tallyAt (recvCell c 0) () N) ∗ cred (tallyAt (recvCell c 1) () N) ∗ cred (tallyAt (recvCell c 2) () N))
    ∗ atPos ER (barCell c) 0 ∅ 0
    ∗ (atPos ER (own c 0) 0 ∅ 0 ∗ atPos ER (own c 1) 0 ∅ 0 ∗ atPos ER (own c 2) 0 ∅ 0 ∗ atPos ER (own c 3) 0 ∅ 0 ∗ atPos ER (own c 4) 0 ∅ 0
        ∗ atPos ER (own c 5) 0 ∅ 0 ∗ atPos ER (own c 6) 0 ∅ 0 ∗ atPos ER (own c 7) 0 ∅ 0 ∗ atPos ER (own c 8) 0 ∅ 0 ∗ atPos ER (own c 9) 0 ∅ 0)
    ∗ (pt c main_arg0 (xV m c) ∗ pt c main_arg3 (eV m c) ∗ pt c main_arg4 (sV m c) ∗ ptAny (F := F) c main_v2)
    ∗ (pt c cc0_stg0_0 (rV m c) ∗ pt c cc0_stg1_0 (iV m c))
    ∗ (ptAny (F := F) c cc0_scratch0 ∗ ptAny (F := F) c cc0_scratch1 ∗ ptAny (F := F) c cc0_scratch2 ∗ ptAny (F := F) c cc0_scratch3
        ∗ (pAny (F := F) c 0 ∗ pAny (F := F) c 1 ∗ pAny (F := F) c 2) ∗ (cAny (F := F) c 0 ∗ cAny (F := F) c 1 ∗ cAny (F := F) c 2) ∗ ptAny (F := F) c cc0_scratch6)
    ∗ ow (F := F) c (O₀ c))

/-- What it leaves: every semaphore at rest, the arguments as they were, the result at the device's block, the scratch at
    whatever, nothing owed. -/
def bodyPost (c : Dev nD) : sProp 𝕄 :=
  iprop(semVal (barCell c) 0
    ∗ (semVal (own c 0) 0 ∗ semVal (own c 1) 0 ∗ semVal (own c 2) 0 ∗ semVal (own c 3) 0 ∗ semVal (own c 4) 0
        ∗ semVal (own c 5) 0 ∗ semVal (own c 6) 0 ∗ semVal (own c 7) 0 ∗ semVal (own c 8) 0 ∗ semVal (own c 9) 0)
    ∗ (pt c main_arg0 (xV m c) ∗ pt c main_arg3 (eV m c) ∗ pt c main_arg4 (sV m c) ∗ pt c main_v2 (outV m c))
    ∗ (pt c cc0_stg0_0 (rV m c) ∗ pt c cc0_stg1_0 (iV m c))
    ∗ (ptAny (F := F) c cc0_scratch0 ∗ ptAny (F := F) c cc0_scratch1 ∗ ptAny (F := F) c cc0_scratch2 ∗ ptAny (F := F) c cc0_scratch3
        ∗ (pAny (F := F) c 0 ∗ pAny (F := F) c 1 ∗ pAny (F := F) c 2) ∗ (cAny (F := F) c 0 ∗ cAny (F := F) c 1 ∗ cAny (F := F) c 2) ∗ ptAny (F := F) c cc0_scratch6)
    ∗ ow (F := F) c 0)

theorem acc_sub (r : Rect S128x512) : ((Memref.whole cc0_scratch6).access r).setOn Finset.univ ⊆ (Memref.whole cc0_scratch6).view.set := by
  rw [show (Memref.whole cc0_scratch6).view.set = Finset.univ from View.set_whole _]; exact Finset.subset_univ _

theorem run_body (c : Dev nD) (Q : PUnit → sProp (MT nD τ sig Unit (Elt F) ℕ UU ℕ)) :
    iprop(bodyPre m K c ∗ (bodyPost m c -∗ Q ⟨⟩)) ⊢ run c (body (F := F)) Q := by
  unfold body
  rw [cc0_body_eq_skeleton]
  unfold cc0_body_skel
  simp only [wp_bind]
  unfold bodyPre
  iintro ⟨⟨#He, ⟨Hb0, Hb1, Hb2⟩, ⟨Ht0, Ht1, Ht2, Ht3⟩, ⟨Hs0, Hs1, Hs2⟩, ⟨Hw0, Hw1, Hw2⟩, ⟨HqB, Hq0, Hq1, Hq2⟩, HaB,
    ⟨Ha0, Ha1, Ha2, Ha3, Ha4, Ha5, Ha6, Ha7, Ha8, Ha9⟩, ⟨Hx, Hee, Hsh, Hv2⟩, ⟨Hg0, Hg1⟩, ⟨S0, S1, S2, S3, ⟨P0, P1, P2⟩, ⟨C0, C1, C2⟩, S6⟩, HO⟩, Hk⟩
  iapply (run1 m K c _) $$ [Hb0 Hb1 Hb2 C0 C1 C2 HO Ht0 Ht1 Ht2 Hx Hee Hsh S0 S1 S2 Ha0 Hg0]
  · isplitr; · iexact He
    isplitl [Hb0 Hb1 Hb2]
    · isplitl [Hb0]; · iexact Hb0
      isplitl [Hb1]; · iexact Hb1
      iexact Hb2
    isplitl [C0 C1 C2]
    · isplitl [C0]; · iexact C0
      isplitl [C1]; · iexact C1
      iexact C2
    isplitl [HO]; · iexact HO
    isplitl [Ht0 Ht1 Ht2]
    · isplitl [Ht0]; · iexact Ht0
      isplitl [Ht1]; · iexact Ht1
      iexact Ht2
    isplitl [Hx Hee Hsh]
    · isplitl [Hx]; · iexact Hx
      isplitl [Hee]; · iexact Hee
      iexact Hsh
    isplitl [S0 S1 S2]
    · isplitl [S0]; · iexact S0
      isplitl [S1]; · iexact S1
      iexact S2
    isplitl [Ha0]; · iexact Ha0
    iexact Hg0
  iintro ⟨⟨Hi1, Hi2⟩, HO, V0, ⟨S0, Hx⟩, Hg0⟩
  iapply (run2 m K c _) $$ [Hg1 S3 Hi1 HO Ha1]
  · isplitr; · iexact He
    isplitl [Hg1]; · iexact Hg1
    isplitl [S3]; · iexact S3
    isplitl [Hi1]; · iexact Hi1
    isplitl [HO]; · iexact HO
    iexact Ha1
  iintro ⟨Hg1, S3, HO, V1, ⟨S1, Hee⟩⟩
  iapply (run3 m K c (wordOf c) _) $$ [S1 S0 S3 HqB HO HaB P1]
  · isplitr; · iexact He
    isplitl [S1]; · iexact S1
    isplitl [S0 S3]
    · unfold rows
      isplitl [S0]; · iexact S0
      iexact S3
    isplitl [HqB]; · iexact HqB
    isplitl [HO]; · iexact HO
    isplitl [HaB]; · iexact HaB
    iexact P1
  iintro ⟨S1, Hr, HO, VB, ⟨B0, B1, B2⟩, P1⟩
  iapply (run4 m K c (wordOf c) _) $$ [Hs1 Hw1 B1 P1 HO Hr P0]
  · isplitr; · iexact He
    isplitl [Hs1 Hw1]
    · isplitl [Hs1]; · iexact Hs1
      iexact Hw1
    isplitl [B1]; · iexact B1
    isplitl [P1]; · iexact P1
    isplitl [HO]; · iexact HO
    isplitl [Hr]; · iexact Hr
    iexact P0
  iintro ⟨Hk1, HO, Hr, P0⟩
  iapply (run5 m K c (wordOf c) _) $$ [Hs0 Hw0 Hs2 Hw2 B0 B2 P0 HO Hr P2]
  · isplitr; · iexact He
    isplitl [Hs0 Hw0]
    · isplitl [Hs0]; · iexact Hs0
      iexact Hw0
    isplitl [Hs2 Hw2]
    · isplitl [Hs2]; · iexact Hs2
      iexact Hw2
    isplitl [B0 B2]
    · isplitl [B0]; · iexact B0
      iexact B2
    isplitl [P0]; · iexact P0
    isplitl [HO]; · iexact HO
    isplitl [Hr]; · iexact Hr
    iexact P2
  iintro ⟨Hk0, Hk2, HO, Hr⟩
  iapply (run6 m K c _ _ _) $$ [Hi2 HO Ha2 Hr Hk1 Ha5]
  · isplitr; · iexact He
    isplitl [Hi2]; · iexact Hi2
    isplitl [HO]; · iexact HO
    isplitl [Ha2]; · iexact Ha2
    isplitl [Hr]; · iexact Hr
    isplitl [Hk1]; · iexact Hk1
    iexact Ha5
  iintro ⟨HO, V2, ⟨S2, Hsh⟩, Hr, V5, P1⟩
  iapply (run7 m K c _ _) $$ [HO Hq1 Ha8 Hk0 Ha4 Hq0 Ha7]
  · isplitr; · iexact He
    isplitl [HO]; · iexact HO
    isplitl [Hq1 Ha8]
    · isplitl [Hq1]; · iexact Hq1
      iexact Ha8
    isplitl [Hk0 Ha4]
    · isplitl [Hk0]; · iexact Hk0
      iexact Ha4
    isplitl [Hq0]; · iexact Hq0
    iexact Ha7
  iintro ⟨HO, ⟨V8, V4, V7⟩, ⟨C1, C0⟩, P0⟩
  simp only [Prog.lift]
  iapply (run_wait0 m K c 6 (P := pAny c 2) rfl (src := cSlot 2) (dst := pSlot 2) rfl) $$ [Hk2 HO Ha6]
  · isplitr; · iexact He
    isplitl [Hk2]; · iexact Hk2
    isplitl [HO]; · iexact HO
    iexact Ha6
  iintro ⟨HO, V6, P2⟩
  iapply (run_ret c)
  iapply (run_wait0 m K c 9 (P := recvPay m c 2) rfl (src := pSlot 2) (dst := cSlot 2) rfl) $$ [Hq2 HO Ha9]
  · isplitr; · iexact He
    isplitl [Hq2]; · iexact Hq2
    isplitl [HO]; · iexact HO
    iexact Ha9
  iintro ⟨HO, V9, C2⟩
  iapply (run_ret c)
  iapply (run_landed m c 2) $$ [C2]
  · iexact C2
  iintro C2
  iapply (run_ret c)
  unfold ptAny pt
  icases S6 with ⟨%f6, S6⟩
  icases Hv2 with ⟨%fo, Hv2⟩
  iapply (run_load c (Memref.whole cc0_scratch6) (f := f6) (sub_set _ _) rfl) $$ [S6]
  · iexact S6
  iintro S6
  iapply (run_ret c)
  iapply (run_store c (Memref.whole cc0_scratch6) (f := f6) (f' := outV m c) (acc_sub _)
    (Memref.write_access_unit_zero_univ (Elt F) cc0_scratch6 hz2 _ _ _)) $$ [S6]
  · iexact S6
  iintro S6
  iapply (run_ret c)
  iapply (run_copy m K c 3 (src := Memref.whole cc0_scratch6) (dst := Memref.whole main_v2) (fs := outV m c) (fd := fo) rfl (copied3 m c fo)) $$ [Ht3 S6 Hv2]
  · isplitr; · iexact He
    isplitl [Ht3]; · iexact Ht3
    isplitl [S6]; · iexact S6
    iexact Hv2
  iintro Hq
  iapply (run_ret c)
  iapply (run_wait0 m K c 3 (pay3_eq m c) (src := Memref.whole cc0_scratch6) (dst := Memref.whole main_v2) rfl) $$ [Hq HO Ha3]
  · isplitr; · iexact He
    isplitl [Hq]; · iexact Hq
    isplitl [HO]; · iexact HO
    iexact Ha3
  iintro ⟨HO, V3, ⟨Hv2, S6⟩⟩
  iapply (run_ret c)
  iapply (run_ret c)
  iapply Hk
  unfold bodyPost rows ptAny pt
  icases Hr with ⟨S0, S3⟩
  isplitl [VB]; · iexact VB
  isplitl [V0 V1 V2 V3 V4 V5 V6 V7 V8 V9]
  · isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    iexact V9
  isplitl [Hx Hee Hsh Hv2]
  · isplitl [Hx]; · iexact Hx
    isplitl [Hee]; · iexact Hee
    isplitl [Hsh]; · iexact Hsh
    iexact Hv2
  isplitl [Hg0 Hg1]
  · isplitl [Hg0]; · iexact Hg0
    iexact Hg1
  isplitl [S0 S1 S2 S3 P0 P1 P2 C0 C1 C2 S6]
  · isplitl [S0]; · iexists _; iexact S0
    isplitl [S1]; · iexists _; iexact S1
    isplitl [S2]; · iexists _; iexact S2
    isplitl [S3]; · iexists _; iexact S3
    isplitl [P0 P1 P2]
    · isplitl [P0]; · iexact P0
      isplitl [P1]; · iexact P1
      iexact P2
    isplitl [C0 C1 C2]
    · isplitl [C0]; · iexact C0
      isplitl [C1]; · iexact C1
      iexact C2
    iexists _; iexact S6
  iexact HO

end Cert.KernelIdeal.Talk

end
-- ==== Proof.IdealRegion.lean ====
/- The kernel's one region as a record of the launch library: what enters and leaves it, the body's obligation at its one
   point, its own semaphores opened on entry and handed back at rest. -/
module

public import proofs.«01_k».proof.Proof.IdealBody
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the body starts with and leaves, in groups -/

/-- The rights to pay that device `c` uses up. -/
def rights (c : Dev nD) : sProp 𝕄 :=
  iprop((dutyTok ER (barCell (fwd 0 c)) 0 2 ∗ dutyTok ER (barCell (fwd 1 c)) 0 1 ∗ dutyTok ER (barCell (fwd 2 c)) 0 0)
    ∗ (dutyTok ER (own c 0) 0 0 ∗ dutyTok ER (own c 1) 0 0 ∗ dutyTok ER (own c 2) 0 0 ∗ dutyTok ER (own c 3) 0 0)
    ∗ (dutyTok ER (sendCell c 0) 0 0 ∗ dutyTok ER (sendCell c 1) 0 0 ∗ dutyTok ER (sendCell c 2) 0 0)
    ∗ (dutyTok ER (recvCell (fwd 0 c) 0) 0 0 ∗ dutyTok ER (recvCell (fwd 1 c) 1) 0 0 ∗ dutyTok ER (recvCell (fwd 2 c) 2) 0 0))
/-- What the other devices owe to device `c`'s cells. -/
def dues (c : Dev nD) : sProp 𝕄 :=
  iprop(cred (tallyAt (barCell c) () 3) ∗ cred (tallyAt (recvCell c 0) () N) ∗ cred (tallyAt (recvCell c 1) () N) ∗ cred (tallyAt (recvCell c 2) () N))
/-- The scratch buffers, at whatever they hold, the two split into slots. -/
def scratch (c : Dev nD) : sProp 𝕄 :=
  iprop(ptAny (F := F) c cc0_scratch0 ∗ ptAny (F := F) c cc0_scratch1 ∗ ptAny (F := F) c cc0_scratch2 ∗ ptAny (F := F) c cc0_scratch3
    ∗ (pAny (F := F) c 0 ∗ pAny (F := F) c 1 ∗ pAny (F := F) c 2) ∗ (cAny (F := F) c 0 ∗ cAny (F := F) c 1 ∗ cAny (F := F) c 2) ∗ ptAny (F := F) c cc0_scratch6)
/-- The buffers the body copies to and from. -/
def copiedIn (c : Dev nD) : sProp 𝕄 :=
  iprop(pt c main_arg0 (xV m c) ∗ pt c main_arg3 (eV m c) ∗ pt c main_arg4 (sV m c) ∗ ptAny (F := F) c main_v2)
def copiedOut (c : Dev nD) : sProp 𝕄 :=
  iprop(pt c main_arg0 (xV m c) ∗ pt c main_arg3 (eV m c) ∗ pt c main_arg4 (sV m c) ∗ pt c main_v2 (outV m c))

theorem sep10 (Φ : Fin 10 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-- The positions on the own cells. -/
def places (c : Dev nD) : sProp 𝕄 := bigSep Finset.univ fun j : Fin 10 => atPos ER (own c j) 0 ∅ 0

/-! ## The scratch buffers as the launch hands them over -/

theorem split_slots (c : Dev nD) (f : cc0_scratch4.ty.Contents (Elt F)) :
    ((c : Thread nD τ).loc cc0_scratch4 ↦{fullShare} f : sProp 𝕄) ⊢ iprop(pAny (F := F) c 0 ∗ pAny (F := F) c 1 ∗ pAny (F := F) c 2) := by
  have h : ((c : Thread nD τ).loc cc0_scratch4 ↦{fullShare} f : sProp 𝕄) ⊢ iprop(pPts (F := F) c 0 f ∗ pPts (F := F) c 1 f ∗ pPts (F := F) c 2 f) := by
    unfold pPts
    rw [pSlot_set, pSlot_set, pSlot_set, ← slots_cover]
    refine (pointsTo_union (Finset.disjoint_union_right.mpr ⟨slots_disj (by decide), slots_disj (by decide)⟩)).1.trans ?_
    exact sep_mono_right (pointsTo_union (slots_disj (by decide))).1
  refine h.trans ?_
  unfold pAny
  iintro ⟨H0, H1, H2⟩
  isplitl [H0]; · iexists f; iexact H0
  isplitl [H1]; · iexists f; iexact H1
  iexists f; iexact H2
theorem split_landing (c : Dev nD) (f : cc0_scratch5.ty.Contents (Elt F)) :
    ((c : Thread nD τ).loc cc0_scratch5 ↦{fullShare} f : sProp 𝕄) ⊢ iprop(cAny (F := F) c 0 ∗ cAny (F := F) c 1 ∗ cAny (F := F) c 2) := by
  have h : ((c : Thread nD τ).loc cc0_scratch5 ↦{fullShare} f : sProp 𝕄) ⊢ iprop(cPts (F := F) c 0 f ∗ cPts (F := F) c 1 f ∗ cPts (F := F) c 2 f) := by
    unfold cPts
    rw [cSlot_set, cSlot_set, cSlot_set, ← slots_cover]
    refine (pointsTo_union (Finset.disjoint_union_right.mpr ⟨slots_disj (by decide), slots_disj (by decide)⟩)).1.trans ?_
    exact sep_mono_right (pointsTo_union (slots_disj (by decide))).1
  refine h.trans ?_
  unfold cAny
  iintro ⟨H0, H1, H2⟩
  isplitl [H0]; · iexists f; iexact H0
  isplitl [H1]; · iexists f; iexact H1
  iexists f; iexact H2

theorem join_slots (c : Dev nD) :
    iprop(pAny (F := F) c 0 ∗ pAny (F := F) c 1 ∗ pAny (F := F) c 2)
      ⊢ (iprop(∃ f : Buf (Elt F) ((c : Thread nD τ).loc cc0_scratch4), (c : Thread nD τ).loc cc0_scratch4 ↦{fullShare} f) : sProp 𝕄) := by
  unfold pAny pPts
  rw [pSlot_set, pSlot_set, pSlot_set]
  iintro ⟨⟨%f0, H0⟩, ⟨%f1, H1⟩, ⟨%f2, H2⟩⟩
  have h12 := pointsTo_join (Ix := Unit) (Name := ℕ) (U := UU) (Lvl := ℕ) (ℓ := (c : Thread nD τ).loc cc0_scratch4) (q := fullShare) (f := f1) (g := f2)
    (slots_disj (show (1 : Fin 3) ≠ 2 by decide))
  have h012 := pointsTo_join (Ix := Unit) (Name := ℕ) (U := UU) (Lvl := ℕ) (ℓ := (c : Thread nD τ).loc cc0_scratch4) (q := fullShare) (f := f0) (g := (slotR 2).set.piecewise f2 f1)
    (Finset.disjoint_union_right.mpr ⟨slots_disj (show (0 : Fin 3) ≠ 1 by decide), slots_disj (show (0 : Fin 3) ≠ 2 by decide)⟩)
  rw [slots_cover] at h012
  iexists _
  iapply h012
  isplitl [H0]; · iexact H0
  iapply h12
  isplitl [H1]; · iexact H1
  iexact H2
theorem join_landing (c : Dev nD) :
    iprop(cAny (F := F) c 0 ∗ cAny (F := F) c 1 ∗ cAny (F := F) c 2)
      ⊢ (iprop(∃ f : Buf (Elt F) ((c : Thread nD τ).loc cc0_scratch5), (c : Thread nD τ).loc cc0_scratch5 ↦{fullShare} f) : sProp 𝕄) := by
  unfold cAny cPts
  rw [cSlot_set, cSlot_set, cSlot_set]
  iintro ⟨⟨%f0, H0⟩, ⟨%f1, H1⟩, ⟨%f2, H2⟩⟩
  have h12 := pointsTo_join (Ix := Unit) (Name := ℕ) (U := UU) (Lvl := ℕ) (ℓ := (c : Thread nD τ).loc cc0_scratch5) (q := fullShare) (f := f1) (g := f2)
    (slots_disj (show (1 : Fin 3) ≠ 2 by decide))
  have h012 := pointsTo_join (Ix := Unit) (Name := ℕ) (U := UU) (Lvl := ℕ) (ℓ := (c : Thread nD τ).loc cc0_scratch5) (q := fullShare) (f := f0) (g := (slotR 2).set.piecewise f2 f1)
    (Finset.disjoint_union_right.mpr ⟨slots_disj (show (0 : Fin 3) ≠ 1 by decide), slots_disj (show (0 : Fin 3) ≠ 2 by decide)⟩)
  rw [slots_cover] at h012
  iexists _
  iapply h012
  isplitl [H0]; · iexact H0
  iapply h12
  isplitl [H1]; · iexact H1
  iexact H2

theorem ptAny_eq (c : Dev nD) (b : Ref sig .tc) :
    (ptAny (F := F) c b : sProp 𝕄) = iprop(∃ f : Buf (Elt F) ((c : Thread nD τ).loc b), (c : Thread nD τ).loc b ↦{fullShare} f) := by
  unfold ptAny; simp only [pt_eq]

/-- The launch's scratch buffers are the body's. -/
theorem scratch_in (c : Dev nD) :
    (Pipeline.scopedRest (Ix := Unit) (Name := ℕ) (U := UU) (Lvl := ℕ) (Val := Elt F) spec0 c : sProp 𝕄) ⊢ scratch (F := F) c := by
  rw [scopedRest0_eq]
  unfold scratch
  simp only [ptAny_eq]
  iintro ⟨H0, H1, H2, H3, ⟨%f4, H4⟩, ⟨%f5, H5⟩, H6⟩
  isplitl [H0]; · iexact H0
  isplitl [H1]; · iexact H1
  isplitl [H2]; · iexact H2
  isplitl [H3]; · iexact H3
  isplitl [H4]; · iapply (split_slots c f4); iexact H4
  isplitl [H5]; · iapply (split_landing c f5); iexact H5
  iexact H6
/-- And go back to it. -/
theorem scratch_out (c : Dev nD) :
    scratch (F := F) c ⊢ (Pipeline.scopedRest (Ix := Unit) (Name := ℕ) (U := UU) (Lvl := ℕ) (Val := Elt F) spec0 c : sProp 𝕄) := by
  rw [scopedRest0_eq]
  unfold scratch
  simp only [ptAny_eq]
  iintro ⟨H0, H1, H2, H3, H4, H5, H6⟩
  isplitl [H0]; · iexact H0
  isplitl [H1]; · iexact H1
  isplitl [H2]; · iexact H2
  isplitl [H3]; · iexact H3
  isplitl [H4]; · iapply (join_slots c); iexact H4
  isplitl [H5]; · iapply (join_landing c); iexact H5
  iexact H6

/-! ## The proof data -/

/-- The device's buffers after the region: the result at the device's block. -/
abbrev V₂ (c : Dev nD) : Valuation τ sig (Elt F) := Function.update (V₁ m c) (Proc.devRef .tc main_v2) (outV m c)

/-- What enters the region beside buffers, and what leaves it. -/
def Xk (c : Dev nD) : sProp 𝕄 :=
  iprop((∃ K, env m K c) ∗ rights (F := F) c ∗ dues (F := F) c ∗ atPos ER (barCell c) 0 ∅ 0 ∗ places (F := F) c)
def Yk (c : Dev nD) : sProp 𝕄 := semVal (barCell c) 0

abbrev sems (c : Dev nD) : sProp 𝕄 := bigSep Finset.univ fun j : Fin 10 => semVal (own c j) 0

def dat (c : Dev nD) : Pipeline.Dat τ (Elt F) Unit ℕ UU ℕ cfg0 c where
  A w := V₁ m c (Proc.devRef .tc (Pipeline.arrRef spec0 w))
  after w _ := match w with
    | ⟨0, _⟩ => rV m c
    | ⟨1, _⟩ => iV m c
  Φ t := if t.val = 0 then iprop(Xk m c ∗ copiedIn m c ∗ scratch (F := F) c ∗ ∃ r, prngReg c r)
    else iprop(Yk (F := F) c ∗ sems (F := F) c ∗ copiedOut m c ∗ scratch (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed (t0_0 : Fin cfg0.N).castSucc = O₀ c := by
  show (if ((t0_0 : Fin cfg0.N).castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- The obligation's form of what is owed, both ways. -/
theorem owes_to (c : Dev nD) (t : Fin (cfg0.N + 1)) (O : CellTallies nD τ sig Unit) (h : (dat (F := F) m c).owed t = O) :
    ow (F := F) c O ⊢ ((dat (F := F) m c).owesAt () t : sProp 𝕄) := by
  unfold ow Pipeline.Dat.owesAt Pipeline.owesWithin Pipeline.Dat.bound
  rw [h]
  iintro ⟨%W, HO⟩
  iexists W
  isplitr; · ipureintro; exact fun _ _ => Or.inl trivial
  iexact HO
theorem owes_of (c : Dev nD) (t : Fin (cfg0.N + 1)) (O : CellTallies nD τ sig Unit) (h : (dat (F := F) m c).owed t = O) :
    ((dat (F := F) m c).owesAt () t : sProp 𝕄) ⊢ ow (F := F) c O := by
  unfold ow Pipeline.Dat.owesAt Pipeline.owesWithin
  rw [h]
  iintro ⟨%W, -, HO⟩
  iexists W; iexact HO

/-- A staged window whole, at a value. -/
theorem owns_pt (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ pt c b f) := by
  unfold owns; simp only [Memref.view_whole, View.read_whole, View.set_whole, pt_eq]

theorem before0 (c : Dev nD) (d) : (dat (F := F) m c).before (0 : Fin 2) (t0_0 : Fin cfg0.N) d = rV m c := by
  unfold Pipeline.Dat.before; rw [if_pos (fetch0_0 t0_0)]
  show ((win0_0.blk t0_0).view.read (Elt F) (rV m c)) = rV m c
  funext y
  show rV m c ((win0_0.rect t0_0).emb y) = rV m c y
  refine congrArg _ (funext fun a => Fin.ext ?_)
  exact Pipeline.Window.rect_emb_val_of_index_zero win0_0 t0_0 a rfl y
theorem before1 (c : Dev nD) (d) : (dat (F := F) m c).before (1 : Fin 2) (t0_0 : Fin cfg0.N) d = iV m c := by
  unfold Pipeline.Dat.before; rw [if_pos (fetch0_1 t0_0)]
  show ((win0_1.blk t0_0).view.read (Elt F) (iV m c)) = iV m c
  funext y
  show iV m c ((win0_1.rect t0_0).emb y) = iV m c y
  refine congrArg _ (funext fun a => Fin.ext ?_)
  exact Pipeline.Window.rect_emb_val_of_index_zero win0_1 t0_0 a rfl y

/-! ## The body's obligation -/

theorem phi_first (c : Dev nD) : (dat (F := F) m c).Φ (t0_0 : Fin cfg0.N).castSucc
    = iprop(Xk m c ∗ copiedIn m c ∗ scratch (F := F) c ∗ ∃ r, prngReg c r) := rfl
theorem phi_next (c : Dev nD) : (dat (F := F) m c).Φ (t0_0 : Fin cfg0.N).succ
    = iprop(Yk (F := F) c ∗ sems (F := F) c ∗ copiedOut m c ∗ scratch (F := F) c ∗ ∃ r, prngReg c r) := rfl
theorem phi_zero (c : Dev nD) : (dat (F := F) m c).Φ 0
    = iprop(Xk m c ∗ copiedIn m c ∗ scratch (F := F) c ∗ ∃ r, prngReg c r) := rfl
theorem phi_last (c : Dev nD) : (dat (F := F) m c).Φ (Fin.last cfg0.N)
    = iprop(Yk (F := F) c ∗ sems (F := F) c ∗ copiedOut m c ∗ scratch (F := F) c ∗ ∃ r, prngReg c r) := rfl

/-- What the pipeline hands the body at its one point, and what it wants back. -/
def pointPre (c : Dev nD) : sProp 𝕄 :=
  iprop((Xk m c ∗ copiedIn m c ∗ scratch (F := F) c ∗ ∃ r, prngReg c r) ∗ (dat (F := F) m c).owesAt () (t0_0 : Fin cfg0.N).castSucc
    ∗ (∃ d, ∃ f, ⌜f = (dat (F := F) m c).before (0 : Fin 2) (t0_0 : Fin cfg0.N) d⌝ ∗ pt c cc0_stg0_0 f)
    ∗ (∃ d, ∃ f, ⌜f = (dat (F := F) m c).before (1 : Fin 2) (t0_0 : Fin cfg0.N) d⌝ ∗ pt c cc0_stg1_0 f))
def pointPost (c : Dev nD) : sProp 𝕄 :=
  iprop((Yk (F := F) c ∗ sems (F := F) c ∗ copiedOut m c ∗ scratch (F := F) c ∗ ∃ r, prngReg c r) ∗ (dat (F := F) m c).owesAt () (t0_0 : Fin cfg0.N).succ
    ∗ (∃ f, ⌜f = rV m c⌝ ∗ pt c cc0_stg0_0 f) ∗ (∃ f, ⌜f = iV m c⌝ ∗ pt c cc0_stg1_0 f))

theorem run_point (c : Dev nD) : pointPre m c ⊢ run c (body (F := F)) (fun _ => pointPost m c) := by
  unfold pointPre Xk copiedIn scratch rights dues places
  rw [sep10]
  iintro ⟨⟨⟨⟨%K, #He⟩, ⟨Hb, Ht, Hs, Hw⟩, Hq, HaB, Ha⟩, Hc, Hscr, Hreg⟩, HO, ⟨%d0, %g0, %h0, Hg0⟩, ⟨%d1, %g1, %h1, Hg1⟩⟩
  rw [before0] at h0
  rw [before1] at h1
  subst h0 h1
  iapply (run_body m K c (fun _ => pointPost m c))
  isplitr [Hreg]
  · unfold bodyPre
    isplitr; · iexact He
    isplitl [Hb]; · iexact Hb
    isplitl [Ht]; · iexact Ht
    isplitl [Hs]; · iexact Hs
    isplitl [Hw]; · iexact Hw
    isplitl [Hq]; · iexact Hq
    isplitl [HaB]; · iexact HaB
    isplitl [Ha]; · iexact Ha
    isplitl [Hc]; · iexact Hc
    isplitl [Hg0 Hg1]
    · isplitl [Hg0]; · iexact Hg0
      iexact Hg1
    isplitl [Hscr]; · iexact Hscr
    iapply (owes_of m c _ (O₀ c) (owed_first m c)); iexact HO
  unfold bodyPost pointPost Yk sems copiedOut scratch
  rw [sep10]
  iintro ⟨Hv, Hss, Hc, ⟨Hg0, Hg1⟩, Hscr, HO⟩
  isplitr [HO Hg0 Hg1]
  · isplitl [Hv]; · iexact Hv
    isplitl [Hss]; · iexact Hss
    isplitl [Hc]; · iexact Hc
    isplitl [Hscr]; · iexact Hscr
    iexact Hreg
  isplitl [HO]; · iapply (owes_to m c _ 0 (owed_last m c)); iexact HO
  isplitl [Hg0]
  · iexists _; isplitr; · ipureintro; rfl
    iexact Hg0
  iexists _; isplitr; · ipureintro; rfl
  iexact Hg1

theorem obligation (c : Dev nD) : Pipeline.BodyObligation (dat (F := F) m c) (defs₀ (F := F)) 𝒱₀ () Set.univ := fun t => by
  obtain rfl := fin_N0 t
  rw [phi_first, phi_next]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_pt]
  exact run_point m c

/-! ## The kernel's own semaphores -/

theorem rest_own (c : Dev nD) : (Pipeline.ownSems0 osem c : sProp 𝕄) = sems (F := F) c := rfl

/-- Before the region: the cells' invariants and the right to open each. -/
def shut (c : Dev nD) : sProp 𝕄 :=
  iprop((∃ K, invs m K) ∗ (bigSep Finset.univ fun k : Fin 3 => reached ER (barCell (fwd k c)) 0)
    ∗ rights (F := F) c ∗ dues (F := F) c ∗ atPos ER (barCell c) 0 ∅ 0 ∗ bigSep Finset.univ fun j : Fin 10 => openTok ER (own c j))

/-- A conjunction of pairs is a pair of conjunctions. -/
theorem both {I : Type} [Fintype I] [DecidableEq I] (Φ Ψ : I → sProp (MT nD τ sig Unit (Elt F) ℕ UU ℕ)) :
    ((bigSep Finset.univ fun i => iprop(Φ i ∗ Ψ i)) ⊢ iprop(bigSep Finset.univ Φ ∗ bigSep Finset.univ Ψ))
      ∧ (iprop(bigSep Finset.univ Φ ∗ bigSep Finset.univ Ψ) ⊢ bigSep Finset.univ fun i => iprop(Φ i ∗ Ψ i)) :=
  have e : (bigSep Finset.univ fun i => iprop(Φ i ∗ Ψ i)) = iprop(bigSep Finset.univ Φ ∗ bigSep Finset.univ Ψ) := bigSep_sep' ..
  ⟨Entails.of_eq e, Entails.of_eq e.symm⟩

/-- All ten opened. -/
theorem open_all (K : GSem nD τ sig → ℕ) (c : Dev nD) :
    iprop(invs m K ∗ bigSep Finset.univ fun j : Fin 10 => iprop(openTok ER (own c j) ∗ semVal (own c j) 0))
      ⊢ (|={Set.univ}=> bigSep Finset.univ fun j : Fin 10 => iprop(atPos ER (own c j) 0 ∅ 0 ∗ reached ER (own c j) 0) : sProp 𝕄) := by
  refine (bigSep_with_persistent (R := invs m K) (Φ := fun j : Fin 10 => iprop(openTok ER (own c j) ∗ semVal (own c j) 0))
    (Ψ := fun j : Fin 10 => iprop(|={Set.univ}=> (atPos ER (own c j) 0 ∅ 0 ∗ reached ER (own c j) 0))) fun j _ => ?_).trans (bigSep_fupd _ _)
  iintro ⟨#HI, Ho, Hv⟩
  iapply (Rounds.cell_open ER (rd m) (g := own c j) (Set.mem_univ (K (own c j))))
  isplitr; · iapply (inv_own m K c j); iexact HI
  isplitl [Ho]; · iexact Ho
  iexact Hv

theorem opened (c : Dev nD) : iprop(shut m c ∗ Pipeline.ownSems0 osem c ∗ levAts L lv) ⊢ (|={Set.univ}=> Xk m c : sProp 𝕄) := by
  rw [rest_own]
  unfold shut Xk sems places
  iintro ⟨⟨⟨%K, #HI⟩, #Hrb, Hr, Hd, HaB, Ho⟩, Hv, #Hl⟩
  imod (open_all m K c) $$ [Ho Hv] with H
  · isplitr; · iexact HI
    iapply (both (F := F) (fun j : Fin 10 => openTok ER (own c j)) (fun j : Fin 10 => semVal (own c j) 0)).2
    isplitl [Ho]; · iexact Ho
    iexact Hv
  ihave H2 := (both (F := F) (fun j : Fin 10 => atPos ER (own c j) 0 ∅ 0) (fun j : Fin 10 => reached ER (own c j) 0)).1 $$ H
  icases H2 with ⟨Ha, #Hre⟩
  imodintro
  isplitr
  · iexists K
    unfold env
    isplitr; · iexact HI
    isplitr; · iexact Hl
    isplitr; · iexact Hre
    iexact Hrb
  isplitl [Hr]; · iexact Hr
  isplitl [Hd]; · iexact Hd
  isplitl [HaB]; · iexact HaB
  iexact Ha

/-! ## The region's buffers -/

/-- The buffers the host and the launch hold. -/
def bufs : Finset (DevRef τ sig) := (StableHlo.tcRefs τ sig).filter fun b => ¬ b.isScoped
/-- Those the body copies to and from. -/
def touched : Finset (DevRef τ sig) :=
  {Proc.devRef .tc main_arg0, Proc.devRef .tc main_arg3, Proc.devRef .tc main_arg4, Proc.devRef .tc main_v2}
/-- All but the windows' arrays. -/
def others : Finset (DevRef τ sig) := bufs \ Pipeline.arrRefs spec0

theorem arr_sub : Pipeline.arrRefs (τ := τ) spec0 ⊆ bufs := by decide
theorem touched_sub : touched ⊆ others := by decide

theorem touched_eq (c : Dev nD) (W : Valuation τ sig (Elt F)) : (StableHlo.held (c : Thread nD τ) touched W : sProp 𝕄)
    = iprop(pt c main_arg0 (W main_arg0) ∗ pt c main_arg3 (W main_arg3) ∗ pt c main_arg4 (W main_arg4) ∗ pt c main_v2 (W main_v2)) := by
  unfold StableHlo.held
  rw [bigSep_eq_bigSepL_of_eq [Proc.devRef .tc main_arg0, Proc.devRef .tc main_arg3, Proc.devRef .tc main_arg4, Proc.devRef .tc main_v2] (by decide) (by decide)]
  simp only [pt_eq]
  rfl

theorem V₂_v2 (c : Dev nD) : V₂ m c main_v2 = outV m c := Function.update_self ..
theorem V₂_of_ne (c : Dev nD) (b : DevRef τ sig) (h : b ≠ Proc.devRef .tc main_v2) : V₂ m c b = V₁ m c b := Function.update_of_ne h ..

theorem entered (c : Dev nD) :
    iprop(Pipeline.scopedRest (Pipeline.pin (pcfgs (F := F)) adm 0).spec c ∗ (∃ r, prngReg c r) ∗ StableHlo.held (c.tc : Thread nD τ) touched (V₁ m c) ∗ Xk m c)
      ⊢ (pdats m 0 c).Φ 0 := by
  rw [show (pdats m 0 c).Φ 0 = _ from phi_zero m c, touched_eq]
  unfold copiedIn ptAny
  iintro ⟨Hs, Hp, ⟨H0, H3, H4, Hv⟩, HX⟩
  isplitl [HX]; · iexact HX
  isplitl [H0 H3 H4 Hv]
  · isplitl [H0]; · iexact H0
    isplitl [H3]; · iexact H3
    isplitl [H4]; · iexact H4
    iexists _; iexact Hv
  isplitl [Hs]; · iapply (scratch_in c); iexact Hs
  iexact Hp

theorem left (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) touched (V₂ m c)
        ∗ Pipeline.ownSems0 osem c ∗ Yk (F := F) c) := by
  rw [show (pdats m 0 c).Φ (Fin.last _) = _ from phi_last m c, touched_eq, V₂_v2, V₂_of_ne m c main_arg0 (by decide), V₂_of_ne m c main_arg3 (by decide),
    V₂_of_ne m c main_arg4 (by decide), rest_own]
  unfold copiedOut
  iintro ⟨HY, Hss, Hc, Hs, Hp⟩
  isplitl [Hs]; · iapply (scratch_out c); iexact Hs
  isplitl [Hp]; · iexact Hp
  isplitl [Hc]; · iexact Hc
  isplitl [Hss]; · iexact Hss
  iexact HY

theorem cut_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨k, rfl⟩ | ⟨k, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem share_full (c : Dev nD) (w) : (pdats (F := F) m 0 c).share w = fullShare := by
  show (dat m c).share w = fullShare
  unfold Pipeline.Dat.share; split <;> rfl

theorem same_off (c : Dev nD) : ∀ b ∈ others \ touched, V₂ m c b = V₁ m c b := fun b hb =>
  V₂_of_ne m c b fun h => (Finset.mem_sdiff.mp hb).2 (by rw [h]; decide)

/-- The staging copies' cells are at the bottom level. -/
theorem stage_low (c : Dev nD) : ∀ (w : Fin 2) (s : Fin (win0 w).nbuf), lv ((c : Thread nD τ), .dma ((win0 w).sem s)) () ≤ 0
  | 0, s => le_of_eq (if_neg (t := (2 : ℕ)) ((by decide : ∀ s : Fin win0_0.nbuf, ¬ 9 ≤ (win0_0.sem s).val) s))
  | 1, s => le_of_eq (if_neg (t := (2 : ℕ)) ((by decide : ∀ s : Fin win0_1.nbuf, ¬ 9 ≤ (win0_1.sem s).val) s))

/-- The windows' arrays end as they were. -/
theorem kept_arr (c : Dev nD) (w : Fin 2) :
    (dat (F := F) m c).arrAt w cfg0.N = V₂ m c (Proc.devRef .tc (Pipeline.arrRef spec0 w)) := by
  have hin : ∀ w : Fin 2, (cfg0.win w).isOut = false := by decide
  have hne : ∀ w : Fin 2, Proc.devRef (τ := τ) .tc (Pipeline.arrRef spec0 w) ≠ Proc.devRef .tc main_v2 := by decide
  exact ((dat (F := F) m c).arrAt_in w (hin w) _).trans (V₂_of_ne m c _ (hne w)).symm

set_option backward.isDefEq.respectTransparency.types false in
/-- The region. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    touched others touched_sub launch0.toP rfl (fun c => (obligation m c).loose)
    (fun _ => 0) O₀ (fun c => (owed_zero m c).trans (zero_add _).symm) (owed_last m) (fun _ => rfl) (share_full m)
    (V₁ m) (V₂ m) (same_off m)
    (shut m) Yk (Xk m) Yk (opened m) (entered m) (left m)
    (fun c => by iintro H; imodintro; iexact H)
    (fun _ => 0)
    ⟨fun c w s => by rw [L_tc]; exact Finset.mem_singleton_self _,
      fun c w s => stage_low c w s,
      fun c t g i h => cut_above m c t g i h⟩
    (fun _ => iprop(emp))
    (fun c w => rfl)
    (fun c w => kept_arr m c w)

end Cert.KernelIdeal.Talk

end
-- ==== Proof.IdealLaunch.lean ====
/- The launch: every cell set up, the rights and the dues dealt to the devices that use them. -/
module

public import proofs.«01_k».proof.Proof.IdealRegion
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights -/

theorem osem_inj : Function.Injective osem := by decide
theorem osem_ne_bar (j : Fin 10) : osem j ≠ .reg barS := by intro h; cases h

def barEmb : Dev nD ↪ GSem nD τ sig := ⟨fun c => barCell c, fun _ _ h => congrArg (fun g : GSem nD τ sig => g.1.1) h⟩
def ownEmb : Dev nD × Fin 10 ↪ GSem nD τ sig :=
  ⟨fun cj => own cj.1 cj.2, fun _ _ h => Prod.ext (congrArg (fun g : GSem nD τ sig => g.1.1) h) (osem_inj (congrArg Prod.snd h))⟩

/-- The barrier cells, live from the launch on, and the kernel's own, set up but shut. -/
abbrev barCells : Finset (GSem nD τ sig) := Finset.univ.map barEmb
abbrev ownCells : Finset (GSem nD τ sig) := Finset.univ.map ownEmb

theorem cells_disj : Disjoint (barCells : Finset (GSem nD τ sig)) ownCells := by
  rw [Finset.disjoint_left]
  intro g h₁ h₂
  obtain ⟨c, -, rfl⟩ := Finset.mem_map.mp h₁
  obtain ⟨cj, -, h⟩ := Finset.mem_map.mp h₂
  exact osem_ne_bar cj.2 (congrArg Prod.snd h)

/-- One duty of a device's cells: three on its barrier cell, one on each of the others. -/
def duty : Fin 3 ⊕ Fin 10 → SemLoc sig × Fin 3
  | .inl k => (.reg barS, k)
  | .inr j => (osem j, 0)
theorem duty_inj : Function.Injective duty := by
  rintro (a | a) (b | b) h
  · exact congrArg Sum.inl (congrArg Prod.snd h)
  · exact absurd (congrArg Prod.fst h).symm (osem_ne_bar b)
  · exact absurd (congrArg Prod.fst h) (osem_ne_bar a)
  · exact congrArg Sum.inr (osem_inj (congrArg Prod.fst h))

def allDuties : Finset (GSem nD τ sig × ℕ × Fin 3) :=
  Finset.univ.map ⟨fun x : Dev nD × (Fin 3 ⊕ Fin 10) => (((x.1 : Thread nD τ), (duty x.2).1), 0, (duty x.2).2), fun x y h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2.2) h)))⟩

/-- The launch's ghost state: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells ownCells allDuties)

/-- The protocol's part waits on device 0 until the launch deals it out. -/
def G (c : Dev nD) : sProp 𝕄 := if c = 0 then BI.own (ER (launchOf barCells ownCells allDuties)) else iprop(emp)

theorem sep4 (Φ : Dev nD → sProp 𝕄) : bigSep Finset.univ Φ = iprop(Φ 0 ∗ Φ 1 ∗ Φ 2 ∗ Φ 3) :=
  bigSep_univ_eq_bigSepL [(0 : Dev nD), 1, 2, 3] (by decide) (by decide) Φ

theorem G_split : (BI.own (ER (launchOf barCells ownCells allDuties)) : sProp 𝕄) ⊢ bigSep Finset.univ (G (F := F)) := by
  rw [sep4]
  unfold G
  rw [if_pos rfl, if_neg (by decide), if_neg (by decide), if_neg (by decide)]
  iintro H
  isplitl [H]; · iexact H
  isplitr; · iempintro
  isplitr; · iempintro
  iempintro
theorem G_whole : bigSep Finset.univ (G (F := F)) ⊢ (BI.own (ER (launchOf barCells ownCells allDuties)) : sProp 𝕄) := by
  rw [sep4]
  unfold G
  rw [if_pos rfl]
  iintro ⟨H, -⟩
  iexact H

/-! ## Dealing the rights -/

/-- The duties of device `c`'s own cells. -/
def dutiesAt (c : Dev nD) : sProp 𝕄 :=
  iprop((dutyTok ER (barCell c) 0 0 ∗ dutyTok ER (barCell c) 0 1 ∗ dutyTok ER (barCell c) 0 2)
    ∗ (dutyTok ER (own c 0) 0 0 ∗ dutyTok ER (own c 1) 0 0 ∗ dutyTok ER (own c 2) 0 0 ∗ dutyTok ER (own c 3) 0 0 ∗ dutyTok ER (own c 4) 0 0
      ∗ dutyTok ER (own c 5) 0 0 ∗ dutyTok ER (own c 6) 0 0 ∗ dutyTok ER (own c 7) 0 0 ∗ dutyTok ER (own c 8) 0 0 ∗ dutyTok ER (own c 9) 0 0))

theorem sep13 (Φ : Fin 3 ⊕ Fin 10 → sProp 𝕄) : bigSep Finset.univ Φ
    ⊢ iprop(bigSep Finset.univ (fun k : Fin 3 => Φ (.inl k)) ∗ bigSep Finset.univ (fun j : Fin 10 => Φ (.inr j))) := by
  rw [bigSep_univ_eq_bigSepL [.inl 0, .inl 1, .inl 2, .inr 0, .inr 1, .inr 2, .inr 3, .inr 4, .inr 5, .inr 6, .inr 7, .inr 8, .inr 9] (by decide) (by decide) Φ,
    sep3, sep10]
  simp only [bigSepL_cons_cons, bigSepL_singleton]
  change iprop(_ ∗ _ ∗ _ ∗ _) ⊢ iprop((_ ∗ _ ∗ _) ∗ _)
  iintro ⟨A0, A1, A2, B⟩
  isplitr [B]
  · isplitl [A0]; · iexact A0
    isplitl [A1]; · iexact A1
    iexact A2
  iexact B

theorem duties_by_device : bigSep allDuties (fun x => (dutyTok ER x.1 x.2.1 x.2.2 : sProp 𝕄)) ⊢ bigSep Finset.univ fun c : Dev nD => dutiesAt (F := F) c := by
  unfold allDuties; rw [bigSep_map, bigSep_univ_prod]
  refine bigSep_mono fun c _ => (sep13 _).trans ?_
  unfold dutiesAt
  rw [sep3, sep10]
  exact BI.Entails.refl _

/-- Each right goes to the device that pays it: the sum over devices is the same around the ring. -/
theorem around (k : Fin 3) (Φ : Dev nD → sProp 𝕄) : bigSep Finset.univ Φ ⊢ bigSep Finset.univ fun c => Φ (fwd k c) :=
  Entails.of_eq (bigSep_univ_equiv (ring k) Φ)

theorem duties_dealt : (bigSep Finset.univ fun c : Dev nD => dutiesAt (F := F) c) ⊢ bigSep Finset.univ fun c : Dev nD => rights (F := F) c := by
  unfold dutiesAt rights
  simp only [bigSep_sep']
  iintro ⟨⟨A0, A1, A2⟩, B0, B1, B2, B3, B4, B5, B6, B7, B8, B9⟩
  isplitl [A0 A1 A2]
  · isplitl [A2]; · iapply (around 0 (fun c => dutyTok ER (barCell c) 0 2)); iexact A2
    isplitl [A1]; · iapply (around 1 (fun c => dutyTok ER (barCell c) 0 1)); iexact A1
    iapply (around 2 (fun c => dutyTok ER (barCell c) 0 0)); iexact A0
  isplitl [B0 B1 B2 B3]
  · isplitl [B0]; · iexact B0
    isplitl [B1]; · iexact B1
    isplitl [B2]; · iexact B2
    iexact B3
  isplitl [B4 B5 B6]
  · isplitl [B4]; · iexact B4
    isplitl [B5]; · iexact B5
    iexact B6
  isplitl [B7]; · iapply (around 0 (fun c => dutyTok ER (own c 7) 0 0)); iexact B7
  isplitl [B8]; · iapply (around 1 (fun c => dutyTok ER (own c 8) 0 0)); iexact B8
  iapply (around 2 (fun c => dutyTok ER (own c 9) 0 0)); iexact B9

/-! ## What the devices owe one another at launch -/

theorem tally_bar (k : Fin 3) (d c : Dev nD) (n : ℕ) :
    (tallyAt (barCell (fwd k d)) () n : CellTallies nD τ sig Unit) (barCell c) () = if d = bwd k c then n else 0 := by
  rw [tallyAt_apply]
  by_cases h : d = bwd k c
  · rw [if_pos h, if_pos ⟨by rw [h, fwd_bwd], rfl⟩]
  · refine (if_neg fun ⟨e, _⟩ => h ?_).trans (if_neg h).symm
    have e' : c = fwd k d := congrArg (fun g : GSem nD τ sig => g.1.1) e
    rw [e', bwd_fwd]
theorem tally_recv (k : Fin 3) (d c : Dev nD) (n : ℕ) :
    (tallyAt (recvCell (fwd k d) k) () n : CellTallies nD τ sig Unit) (recvCell c k) () = if d = bwd k c then n else 0 := by
  rw [tallyAt_apply]
  by_cases h : d = bwd k c
  · rw [if_pos h, if_pos ⟨by rw [h, fwd_bwd], rfl⟩]
  · refine (if_neg fun ⟨e, _⟩ => h ?_).trans (if_neg h).symm
    have e' : c = fwd k d := congrArg (fun g : GSem nD τ sig => g.1.1) e
    rw [e', bwd_fwd]
theorem tally_other {g g' : GSem nD τ sig} (n : ℕ) (h : g'.2 ≠ g.2) : (tallyAt g () n : CellTallies nD τ sig Unit) g' () = 0 := by
  rw [tallyAt_apply, if_neg fun e => h (congrArg Prod.snd e.1)]

theorem recv_ne_bar (k : Fin 3) : (SemLoc.dma (recvS k) : SemLoc sig) ≠ .reg barS := by intro h; cases h
theorem recv_ne (j k : Fin 3) (h : j ≠ k) : (SemLoc.dma (recvS j) : SemLoc sig) ≠ .dma (recvS k) := by
  revert j k; decide

theorem owed_bar (d c : Dev nD) : O₀ d (barCell c) () = (if d = bwd 2 c then 1 else 0) + (if d = bwd 1 c then 1 else 0) + (if d = bwd 0 c then 1 else 0) := by
  unfold O₀ oSend
  simp only [Pi.add_apply, Finsupp.add_apply, tally_bar]
  rw [tally_other (g := recvCell (fwd 2 d) 2) N (recv_ne_bar 2).symm, tally_other (g := recvCell (fwd 0 d) 0) N (recv_ne_bar 0).symm,
    tally_other (g := recvCell (fwd 1 d) 1) N (recv_ne_bar 1).symm]
  simp only [Nat.zero_add]

theorem owed_recv (k : Fin 3) (d c : Dev nD) : O₀ d (recvCell c k) () = if d = bwd k c then N else 0 := by
  have hb (j : Fin 3) : (tallyAt (barCell (fwd j d)) () 1 : CellTallies nD τ sig Unit) (recvCell c k) () = 0 :=
    tally_other (g := barCell (fwd j d)) 1 (recv_ne_bar k)
  have hr (j : Fin 3) (h : k ≠ j) : (tallyAt (recvCell (fwd j d) j) () N : CellTallies nD τ sig Unit) (recvCell c k) () = 0 :=
    tally_other (g := recvCell (fwd j d) j) N (recv_ne k j h)
  unfold O₀ oSend
  simp only [Pi.add_apply, Finsupp.add_apply, hb, Nat.add_zero]
  match k with
  | 0 => rw [tally_recv, hr 2 (by decide), hr 1 (by decide)]; simp only [Nat.zero_add, Nat.add_zero]
  | 1 => rw [tally_recv, hr 2 (by decide), hr 0 (by decide)]; simp only [Nat.zero_add, Nat.add_zero]
  | 2 => rw [tally_recv, hr 0 (by decide), hr 1 (by decide)]; simp only [Nat.zero_add, Nat.add_zero]

theorem due_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]
theorem due_recv (k : Fin 3) (c : Dev nD) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq', if_pos (Finset.mem_univ _)]

theorem dues_dealt (c : Dev nD) : (Pipeline.launchCred O₀ c : sProp 𝕄) ⊢ dues (F := F) c := by
  unfold Pipeline.launchCred dues
  refine (bigSep_subset (s := Finset.univ) (t := {SemLoc.reg barS, .dma (recvS 0), .dma (recvS 1), .dma (recvS 2)}) (Finset.subset_univ _)).trans ?_
  rw [bigSep_eq_bigSepL_of_eq [SemLoc.reg barS, .dma (recvS 0), .dma (recvS 1), .dma (recvS 2)] (by decide) (by decide)]
  simp only [bigSepL_cons_cons, bigSepL_singleton]
  rw [due_bar, due_recv 0, due_recv 1, due_recv 2]
  exact BI.Entails.refl _

/-! ## The whole launch -/

/-- What every device may consult. -/
def shared (κ : GSem nD τ sig → ℕ) : sProp 𝕄 :=
  iprop((bigSep (barCells ∪ ownCells) fun g => cellInv ER (rd m) (κ g) g) ∗ bigSep barCells fun g => reached ER g 0)
instance shared_persistent (κ : GSem nD τ sig → ℕ) : BI.Persistent (shared m κ) := by unfold shared; infer_instance

theorem shared_invs (κ : GSem nD τ sig → ℕ) : shared m κ ⊢ invs m κ := by
  unfold shared invs
  rw [BI.bigSep_union cells_disj, bigSep_map, bigSep_map]
  exact sep_elim_left
theorem shared_bar (κ : GSem nD τ sig → ℕ) (c : Dev nD) : shared m κ ⊢ bigSep Finset.univ fun k : Fin 3 => reached ER (barCell (fwd k c)) 0 := by
  have h (k : Fin 3) : (bigSep barCells fun g => (reached ER g 0 : sProp 𝕄)) ⊢ reached ER (barCell (fwd k c)) 0 :=
    bigSep_elim (Finset.mem_map_of_mem barEmb (Finset.mem_univ (fwd k c)))
  unfold shared
  rw [sep3]
  iintro ⟨-, #H⟩
  isplitr; · iapply (h 0); iexact H
  isplitr; · iapply (h 1); iexact H
  iapply (h 2); iexact H

/-- What a device alone holds. -/
def alone (c : Dev nD) : sProp 𝕄 :=
  iprop(rights (F := F) c ∗ atPos ER (barCell c) 0 ∅ 0 ∗ bigSep Finset.univ fun j : Fin 10 => openTok ER (own c j))
/-- And what the launch gives it besides the protocol. -/
def given (c : Dev nD) : sProp 𝕄 :=
  iprop(StableHlo.held (c : Thread nD τ) bufs (V₀ m c) ∗ dues (F := F) c ∗ owes (c : Thread nD τ) (O₀ c) ∅ ∗ ∃ r, prngReg c r)

/-- What rides along the host's operation. -/
def along (c : Dev nD) : sProp 𝕄 := iprop(shut m c ∗ (∃ r, prngReg c r) ∗ ow (F := F) c (O₀ c))
abbrev T₀ (c : Dev nD) : sProp 𝕄 := iprop(StableHlo.held (c : Thread nD τ) bufs (V₀ m c) ∗ along m c)
abbrev Tₙ (c : Dev nD) : sProp 𝕄 := iprop(StableHlo.held (c : Thread nD τ) bufs (V₂ m c) ∗ semVal (barCell c) 0)

theorem start (κ : GSem nD τ sig → ℕ) (c : Dev nD) : iprop(shared m κ ∗ (alone (F := F) c ∗ given m c)) ⊢ T₀ m c := by
  unfold alone given T₀ along shut ow
  iintro ⟨#HS, ⟨Hr, Ha, Ho⟩, Hh, Hd, HO, Hp⟩
  isplitl [Hh]; · iexact Hh
  isplitl [Hr Ha Ho Hd]
  · isplitr; · iexists κ; iapply (shared_invs m κ); iexact HS
    isplitr; · iapply (shared_bar m κ c); iexact HS
    isplitl [Hr]; · iexact Hr
    isplitl [Hd]; · iexact Hd
    isplitl [Ha]; · iexact Ha
    iexact Ho
  isplitl [Hp]; · iexact Hp
  iexists ∅; iexact HO

theorem held_bufs (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem only_bar (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem launched :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(given m c ∗ (semVal (barCell c) 0 ∗ G c)) : sProp 𝕄) := by
    rw [show unscopedBufs c (fun b => m ((c : Thread nD τ).loc b)) = StableHlo.held (c : Thread nD τ) bufs (V₀ m c) from held_bufs c (V₀ m c), only_bar]
    unfold given
    iintro ⟨Hh, Hs, HO, Hc, Hp, HG⟩
    isplitl [Hh HO Hc Hp]
    · isplitl [Hh]; · iexact Hh
      isplitl [Hc]; · iapply (dues_dealt c); iexact Hc
      isplitl [HO]; · iexact HO
      iexists (ρ c); iexact Hp
    isplitl [Hs]; · iexact Hs
    iexact HG
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop(bigSep Finset.univ (given m) ∗ bigSep Finset.univ (fun c => semVal (barCell c) 0) ∗ bigSep Finset.univ (G (F := F))) : sProp 𝕄) :=
    (bigSep_mono fun c _ => hone c).trans ((both (F := F) _ _).1.trans (sep_mono_right (both (F := F) _ _).1))
  have hval : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hpos : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => (bigSep Finset.univ fun j : Fin 10 => openTok ER (own c j) : sProp 𝕄)) :=
    Entails.of_eq (by rw [bigSep_map, bigSep_univ_prod]; rfl)
  iintro ⟨H, -⟩
  ihave H2 := hall $$ H
  icases H2 with ⟨Hg, Hv, HG⟩
  ihave Hu := (G_whole (F := F)) $$ HG
  imod (Rounds.fund_launch ER (rd m) cells_disj (fun g _ h => h) allDuties) $$ [Hv Hu] with ⟨%κ, -, #Hinv, #Hre, Hat, Hop, Htok⟩
  · isplitl [Hv]
    · iapply hval $$ Hv
    · iexact Hu
  imodintro
  iapply (bigSep_with_persistent (R := shared m κ) (Φ := fun c => iprop(alone (F := F) c ∗ given m c)) fun c _ => start m κ c)
  isplitr
  · unfold shared
    isplitr; · iexact Hinv
    iexact Hre
  iapply (both (F := F) (fun c => alone (F := F) c) (fun c => given m c)).2
  isplitr [Hg]
  · unfold alone
    iapply (both (F := F) _ _).2
    isplitl [Htok]
    · iapply (duties_dealt (F := F)); iapply (duties_by_device (F := F)); iexact Htok
    iapply (both (F := F) _ _).2
    isplitl [Hat]; · iapply hpos $$ Hat
    iapply hopen $$ Hop
  iexact Hg

end Cert.KernelIdeal.Talk

end
-- ==== Proof.IdealRun.lean ====
/- The whole run: the host's operation and the region in order, and what the memory holds at the end. -/
module

public import proofs.«01_k».proof.Proof.IdealLaunch

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

theorem ops_in : ∀ op ∈ (hostOps0 : List (HloOp τ sig (Elt F))), op.bufs ⊆ bufs := by
  intro op h
  rw [List.mem_singleton] at h
  rw [h, show bufs = Pipeline.ucRefs τ sig from rfl]
  exact Pipeline.sub_ucRefs _ (StableHlo.unary_bufs_sub ..)
theorem ops_old : ∀ op ∈ (hostOps0 : List (HloOp τ sig (Elt F))), op.fresh = ∅ := by
  intro op h
  rw [List.mem_singleton] at h
  rw [h]; rfl

/-- The host's one operation, everything else riding along. -/
def seg0 : Pipeline.HostSeg (Ix := Unit) (Name := ℕ) (U := UU) (Lvl := ℕ) (pcfgs (F := F)) defs₀ 𝒱₀ L lv :=
  Pipeline.HostSeg.ofOps _ _ _ _ _ bufs hostOps0 ops_in ops_old (V₀ m) (along m)

def segs : List (Pipeline.Seg (pcfgs (F := F)) adm (pdats m) () defs₀ 𝒱₀ L lv) := [.host (seg0 m), .region (region m)]

theorem region_pre (c : Dev nD) : iprop(StableHlo.held (c : Thread nD τ) bufs (V₁ m c) ∗ along m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ shut m c ∗ ∃ Wd, owes (c : Thread nD τ) (0 + O₀ c) Wd)
  rw [zero_add, StableHlo.held_sub_split _ arr_sub]
  unfold along ow
  iintro ⟨⟨Ha, Ho⟩, HK, Hp, HO⟩
  isplitl [Ha]; · iexact Ha
  isplitl [Hp]; · iexact Hp
  isplitl [Ho]
  · isplitl [Ho]; · iexact Ho
    iempintro
  isplitl [HK]; · iexact HK
  iexact HO

theorem region_post (c : Dev nD) : (region m).post c
    ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  unfold Tₙ Yk
  rw [StableHlo.held_sub_split _ arr_sub]
  iintro ⟨Ha, -, ⟨Ho, -⟩, Hb, HO⟩
  isplitr [HO]
  · isplitl [Ha Ho]
    · isplitl [Ha]; · iexact Ha
      iexact Ho
    iexact Hb
  iexact HO

/-! ## The run -/

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2] (by decide) (by decide)]
  simp only [pt_eq]
  rfl

theorem loose_bar : ∀ sm : SemLoc sig, sm.isScoped .tc = false → sm = .reg barS := by decide

/-- What the run leaves on device `c`. -/
abbrev Left (c : Dev nD) (s : MemSt nD τ sig (Elt F)) : Prop :=
  (s.mem ((c : Thread nD τ).loc main_arg0) = V₂ m c main_arg0 ∧ s.mem ((c : Thread nD τ).loc main_arg1) = V₂ m c main_arg1
    ∧ s.mem ((c : Thread nD τ).loc main_arg2) = V₂ m c main_arg2 ∧ s.mem ((c : Thread nD τ).loc main_arg3) = V₂ m c main_arg3
    ∧ s.mem ((c : Thread nD τ).loc main_arg4) = V₂ m c main_arg4 ∧ s.mem ((c : Thread nD τ).loc main_v2) = V₂ m c main_v2)
  ∧ s.sem (barCell c) = 0

set_option backward.isDefEq.respectTransparency.types false in
/-- From any memory with zero counters every fair run ends with what `V₂` says in every array and every counter at zero. -/
theorem run_left : θ_run defs (onTc (τ := τ) (main (F := F))) ⟨m, fun _ => 0, ρ⟩ (fun r => (∀ c : Dev nD, Left m c r.2) ∧ r.2.sem = fun _ => 0) :=
  Pipeline.θ_run_regions_kit_sems (pcfgs (F := F)) adm (pdats m) () cellOf_inj EP defs₀ 𝒱₀ L lv m ρ main (segs m)
    (fun c Q => by rw [Gen.main_segs adm (pdats m) () 𝒱₀ L lv (seg0 m) (region m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (G_split (F := F)); iexact HX)
    (T₀ := T₀ m) (Tₙ := Tₙ m)
    (hch := ⟨fun c => .rfl, fun c => region_pre m c, fun c => region_post m c⟩)
    (hinit := launched m ρ)
    (QY := fun c s => Left m c s)
    (hfin := fun c s' => by
      dsimp only [Tₙ]; rw [bufs_eq]; simp only [pt_eq]
      iintro ⟨⟨⟨H0, H1, H2, H3, H4, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨h, sem_eq_zero hs fun c sm hsm => by
        obtain rfl := loose_bar sm hsm
        exact (h c).2⟩)

theorem V₂_old (c : Dev nD) (b : Ref sig .tc) (h₁ : b ≠ main_v1) (h₂ : Proc.devRef (τ := τ) .tc b ≠ Proc.devRef .tc main_v2) :
    V₂ m c b = m ((c : Thread nD τ).loc b) := by
  rw [V₂_of_ne m c b h₂]
  show StableHlo.after hostOps0 (V₀ m c) (Proc.devRef .tc b) = _
  rw [StableHlo.after_cons, StableHlo.after_nil, StableHlo.unary_result_ne _ _ _ _ _ _ h₁]

/-- The run: it ends, faults nowhere, leaves every argument as it was, every counter at zero, and the kernel's value in the result. -/
theorem run_all : θ_run defs (onTc (τ := τ) (main (F := F))) ⟨m, fun _ => 0, ρ⟩
    (fun r => (∀ c : Dev nD, r.2.mem ((c.tc : Thread nD τ).loc main_v2) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs (onTc (τ := τ) (main (F := F))) ⟨m, fun _ => 0, ρ⟩).mono (fun r h => ⟨fun c => by
    obtain ⟨⟨h0, h1, h2, h3, h4, h5⟩, -⟩ := h.1 c
    exact ⟨h5.trans (V₂_v2 m c), h0.trans (V₂_old m c main_arg0 (by decide) (by decide)), h1.trans (V₂_old m c main_arg1 (by decide) (by decide)),
      h2.trans (V₂_old m c main_arg2 (by decide) (by decide)), h3.trans (V₂_old m c main_arg3 (by decide) (by decide)),
      h4.trans (V₂_old m c main_arg4 (by decide) (by decide))⟩, h.2⟩) (run_left m ρ)

end Cert.KernelIdeal.Talk

end
-- ==== Proof.Frames.lean ====
/- The three frames: each program ends without fault, with its arguments as they were and every counter at zero. -/
module

public import proofs.«01_k».proof.Defs
public import proofs.«01_k».proof.Proof.BitsRun
public import proofs.«01_k».proof.Proof.IdealRun
public import proofs.«01_k».proof.Proof.Gen.ReferenceIdeal.Run

@[expose] public section

noncomputable section

namespace Cert.Proof

open Idealize.ShloMosaic Idealize.ShloMosaic.TcCoe Idealize.SL.Sem

/-- The kernel over machine numbers. -/
theorem frame_kernel : Cert.quiescent_Kernel (hKernel := Cert.Kernel.Gen.facts) := fun m g _ =>
  (θ_run Cert.Kernel.defs _ _).mono (fun _ h => ⟨fun c => (h.1 c).2, h.2⟩) (Cert.Kernel.Talk.run_all (F := Bits) m g)

/-- The kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Talk.run_all (F := Ideal) m g)

/-- The reference over the extended reals: it has no counter at all. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.lean ====
/- The value of the kernel's stages and of the reference at one place, as sums over the extended reals. -/
module

public import proofs.«01_k».proof.Proof.Gen.KernelIdeal.Skeleton
public import proofs.«01_k».proof.Proof.Gen.KernelIdeal.Launch
public import proofs.«01_k».proof.Proof.Gen.ReferenceIdeal.Run
public import Idealize.ShloMosaic.Lib.Pointwise

@[expose] public section

set_option maxRecDepth 16384

noncomputable section

namespace Cert.Value

open Idealize.ShloMosaic

/-! ## What is computed -/

section Math

open Cert.ReferenceIdeal (S512x256 S512x1 S256x512 S256x8 S8x256x512)

variable (x : FVec Ideal S512x256 .f32) (w : FVec Ideal S256x8 .f32) (i : IVec S512x1 32) (E : FVec Ideal S8x256x512 .f32) (s : FVec Ideal S256x512 .f32)

/-- The router's score of expert `e` for token `t`. -/
def score (t : Fin 512) (e : Fin 8) : EReal := ∑ k : Fin 256, x (ix2 t k) * w (ix2 k e)

/-- The largest score of token `t`. -/
def top (t : Fin 512) : EReal := Finset.fold max (Ideal.ofBits FTy.f32 4286578688#32) (fun e => score x w t e) Finset.univ

/-- The probability of expert `e` for token `t`. -/
def prob (t : Fin 512) (e : Fin 8) : EReal :=
  Ideal.div (Ideal.exp (score x w t e - top x w t)) (∑ e' : Fin 8, Ideal.exp (score x w t e' - top x w t))

/-- What expert `e` makes of token `t`. -/
def routed (t : Fin 512) (e : Fin 8) (h : Fin 512) : EReal := ∑ k : Fin 256, x (ix2 t k) * E (ix3 e k h)

/-- What expert `e` adds to token `t`: nothing, unless the token chose it. -/
def share (t : Fin 512) (h : Fin 512) (e : Fin 8) : EReal :=
  if i (ix2 t 0) = BitVec.ofNat 32 e.val then prob x w t e * routed x E t e h else 0

/-- The shared expert's part. -/
def common (t : Fin 512) (h : Fin 512) : EReal := ∑ k : Fin 256, x (ix2 t k) * s (ix2 k h)

end Math

/-- A select by an equality of words is an if. -/
theorem select_eq {α : Type} (a b : BitVec 32) (u v : α) : Scalar.select (IntOp.cmpi .eq a b) u v = if a = b then u else v := by
  by_cases h : a = b
  · subst h; simp [Scalar.select, IntOp.cmpi]
  · simp [Scalar.select, IntOp.cmpi, h, beq_eq_false_iff_ne.mpr h]

/-- An equality of words, as a number. -/
theorem sitofp_eq (a b : BitVec 32) :
    (FloatOps.sitofp (F := Ideal) FTy.f32 (BitVec.setWidth 32 (IntOp.cmpi .eq a b)) : EReal) = if a = b then 1 else 0 := by
  show (((BitVec.setWidth 32 (IntOp.cmpi .eq a b)).toInt : ℝ) : EReal) = _
  by_cases h : a = b
  · subst h; simp [IntOp.cmpi]
  · simp [IntOp.cmpi, h, beq_eq_false_iff_ne.mpr h]

/-! ## The reference -/

section Reference

open Cert.ReferenceIdeal Cert.ReferenceIdeal.Gen

/-- The reference's result, as a function of its five arguments. -/
def reference (x : FVec Ideal S512x256 .f32) (w : FVec Ideal S256x8 .f32) (i : IVec S512x1 32) (E : FVec Ideal S8x256x512 .f32) (s : FVec Ideal S256x512 .f32) :
    FVec Ideal S512x512 .f32 :=
  addf (Host.dotGeneral dot_S512x256_S256x512_S512x512_1_0_0_1_n_n none x s) (Host.reduceAdd (select (broadcastInDim S512x8x512 ![0, 1, 2] bcast_S512x8x1_S512x8x512_0_1_2 (broadcastInDim S512x8x1 ![0, 1] bcast_S512x8_S512x8x1_0_1 (cmpi .eq (broadcastInDim S512x8 ![0, 1] bcast_S512x1_S512x8_0_1 i) (broadcastInDim S512x8 ![0, 1] bcast_S1x8_S512x8_0_1 (broadcastInDim S1x8 ![1] bcast_S8_S1x8_1 (iotaInDim S8 32 0)))))) (mulf (broadcastInDim S512x8x512 ![0, 1, 2] bcast_S512x8x1_S512x8x512_0_1_2 (broadcastInDim S512x8x1 ![0, 1] bcast_S512x8_S512x8x1_0_1 (Host.divf (Host.exp (subf (Host.dotGeneral dot_S512x256_S256x8_S512x8_1_0_0_1_n_n none x w) (broadcastInDim S512x8 ![0, 1] bcast_S512x1_S512x8_0_1 (broadcastInDim S512x1 ![0] bcast_S512_S512x1_0 (Host.reduce FloatOps.maximumf (Host.dotGeneral dot_S512x256_S256x8_S512x8_1_0_0_1_n_n none x w) (constant S_ .f32 0xFF800000#32) reducesTo_S512x8_S512_d1 h_S_))))) (broadcastInDim S512x8 ![0, 1] bcast_S512x1_S512x8_0_1 (broadcastInDim S512x1 ![0] bcast_S512_S512x1_0 (Host.reduceAdd (Host.exp (subf (Host.dotGeneral dot_S512x256_S256x8_S512x8_1_0_0_1_n_n none x w) (broadcastInDim S512x8 ![0, 1] bcast_S512x1_S512x8_0_1 (broadcastInDim S512x1 ![0] bcast_S512_S512x1_0 (Host.reduce FloatOps.maximumf (Host.dotGeneral dot_S512x256_S256x8_S512x8_1_0_0_1_n_n none x w) (constant S_ .f32 0xFF800000#32) reducesTo_S512x8_S512_d1 h_S_))))) (constant S_ .f32 0x00000000#32) reducesTo_S512x8_S512_d1 h_S_)))))) (Host.dotGeneral dot_S512x256_S8x256x512_S512x8x512_1_1_0_02_n_n none x E)) (broadcastInDim S512x8x512 ![] bcast_S_S512x8x512 (id (constant S_ .f32 0x00000000#32)))) (constant S_ .f32 0x00000000#32) reducesTo_S512x8x512_S512x512_d1 h_S_)

theorem reference_at (x : FVec Ideal S512x256 .f32) (w : FVec Ideal S256x8 .f32) (i : IVec S512x1 32) (E : FVec Ideal S8x256x512 .f32) (s : FVec Ideal S256x512 .f32)
    (t h : Fin 512) : reference x w i E s (ix2 t h) = common x s t h + ∑ e : Fin 8, share x w i E t h e := by
  pointwise [reference]
  refine congrArg (common x s t h + ·) (Finset.sum_congr rfl fun e _ => ?_)
  rw [select_eq]
  refine if_congr Iff.rfl rfl ?_
  exact Ideal.ofBits_zero_f32

end Reference

/-! ## The kernel's stages -/

section Kernel

open Cert.KernelIdeal (S512x256 S8x256 S512x1 S256x512 S128x256 S128x1 S128x512 S1x256x512 S1x128x512)
open Cert.ReferenceIdeal (S256x8)
open Cert.KernelIdeal.Gen

/-- Of the probabilities of a token the kernel keeps the chosen expert's. -/
theorem pay4_at (x : FVec Ideal S512x256 .f32) (r : FVec Ideal S8x256 .f32) (w : FVec Ideal S256x8 .f32) (hr : ∀ e k, r (ix2 e k) = w (ix2 k e))
    (i : IVec S512x1 32) (t : Fin 512) :
    k0_pay4 (F := Ideal) x r i (ix2 t 0) = ∑ e : Fin 8, if i (ix2 t 0) = BitVec.ofNat 32 e.val then prob x w t e else 0 := by
  pointwise [k0_pay4, k0_pay3]
  simp only [hr]
  refine Finset.sum_congr rfl fun e _ => ?_
  rw [select_eq]
  exact if_congr eq_comm rfl rfl

theorem expert_word : ∀ e j : Fin 8, BitVec.ofNat 32 j.val = BitVec.ofNat 32 e.val → e = j := by decide

/-- A sum of which at most one term is kept, masked to that term. -/
theorem sum_masked (a : BitVec 32) (p : Fin 8 → EReal) (j : Fin 8) :
    (∑ e : Fin 8, if a = BitVec.ofNat 32 e.val then p e else 0) * (if a = BitVec.ofNat 32 j.val then 1 else 0)
      = if a = BitVec.ofNat 32 j.val then p j else 0 := by
  by_cases h : a = BitVec.ofNat 32 j.val
  · rw [if_pos h, if_pos h, mul_one, Finset.sum_eq_single j, if_pos h]
    · intro e _ hne
      exact if_neg fun he => hne (expert_word e j (h.symm.trans he))
    · exact fun hj => absurd (Finset.mem_univ j) hj
  · rw [if_neg h, if_neg h, mul_zero]

theorem pay5_at (v : BitVec 32) (j : Fin 8) (hv : Scalar.muli 2#32 v = BitVec.ofNat 32 j.val)
    (x : FVec Ideal S512x256 .f32) (r : FVec Ideal S8x256 .f32) (w : FVec Ideal S256x8 .f32) (hr : ∀ e k, r (ix2 e k) = w (ix2 k e))
    (i : IVec S512x1 32) (t : Fin 512) :
    k0_pay5 (F := Ideal) v x r i (ix2 t 0) = if i (ix2 t 0) = BitVec.ofNat 32 j.val then prob x w t j else 0 := by
  pointwise [k0_pay5, k0_pay3]
  rw [sitofp_eq, hv, pay4_at x r w hr, sum_masked]

theorem pay6_at (v : BitVec 32) (j : Fin 8) (hv : Scalar.addi (Scalar.muli 2#32 v) 1#32 = BitVec.ofNat 32 j.val)
    (x : FVec Ideal S512x256 .f32) (r : FVec Ideal S8x256 .f32) (w : FVec Ideal S256x8 .f32) (hr : ∀ e k, r (ix2 e k) = w (ix2 k e))
    (i : IVec S512x1 32) (t : Fin 512) :
    k0_pay6 (F := Ideal) v x r i (ix2 t 0) = if i (ix2 t 0) = BitVec.ofNat 32 j.val then prob x w t j else 0 := by
  pointwise [k0_pay6, k0_pay3]
  rw [sitofp_eq, hv, pay4_at x r w hr, sum_masked]

theorem pay10_at (e e' : FVec Ideal S1x256x512 .f32) (x : FVec Ideal S128x256 .f32) (s s' : FVec Ideal S128x1 .f32) (r : Fin 128) (h : Fin 512) :
    k0_pay10 (F := Ideal) (k0_pay7 e) (k0_pay8 e') x s s' (ix3 0 r h)
      = s (ix2 r 0) * (∑ k : Fin 256, x (ix2 r k) * e (ix3 0 k h)) + s' (ix2 r 0) * (∑ k : Fin 256, x (ix2 r k) * e' (ix3 0 k h)) := by
  pointwise [k0_pay10, k0_pay7, k0_pay8]

theorem pay12_at (e e' : FVec Ideal S1x256x512 .f32) (x : FVec Ideal S128x256 .f32) (s s' : FVec Ideal S128x1 .f32) (sh : FVec Ideal S256x512 .f32) (r : Fin 128) (h : Fin 512) :
    k0_pay12 (F := Ideal) (k0_pay7 e) (k0_pay8 e') x sh s s' (ix2 r h)
      = (∑ k : Fin 256, x (ix2 r k) * sh (ix2 k h)) + s (ix2 r 0) * (∑ k : Fin 256, x (ix2 r k) * e (ix3 0 k h))
        + s' (ix2 r 0) * (∑ k : Fin 256, x (ix2 r k) * e' (ix3 0 k h)) := by
  pointwise [k0_pay12, k0_pay7, k0_pay8]

theorem pay13_at (a : FVec Ideal S128x512 .f32) (p q : FVec Ideal S1x128x512 .bf16) (r : Fin 128) (h : Fin 512) :
    k0_pay13 (F := Ideal) a p q (ix2 r h) = a (ix2 r h) + p (ix3 0 r h) + q (ix3 0 r h) := by
  pointwise [k0_pay13]

theorem pay1_at (a : FVec Ideal S128x512 .f32) (p : FVec Ideal S1x128x512 .bf16) (r : Fin 128) (h : Fin 512) :
    k0_pay1 (F := Ideal) a p (ix2 r h) = a (ix2 r h) + p (ix3 0 r h) := by
  pointwise [k0_pay1]

/-- A kept probability times what its expert makes of the token is the expert's share. -/
theorem kept_mul (x : FVec Ideal S512x256 .f32) (w : FVec Ideal S256x8 .f32) (i : IVec S512x1 32) (E : FVec Ideal Cert.ReferenceIdeal.S8x256x512 .f32)
    (t h : Fin 512) (j : Fin 8) :
    (if i (ix2 t 0) = BitVec.ofNat 32 j.val then prob x w t j else 0) * routed x E t j h = share x w i E t h j := by
  unfold share
  by_cases hj : i (ix2 t 0) = BitVec.ofNat 32 j.val
  · rw [if_pos hj, if_pos hj]
  · rw [if_neg hj, if_neg hj, zero_mul]

end Kernel

end Cert.Value

end
-- ==== Proof.Algebraic.lean ====
/- The kernel's blocks are the blocks of the reference's result. -/
module

public import proofs.«01_k».proof.Defs
public import proofs.«01_k».proof.Proof.IdealRun
public import proofs.«01_k».proof.Proof.Value

@[expose] public section

set_option maxRecDepth 16384

noncomputable section

namespace Cert.Proof

open Idealize.ShloMosaic Idealize.ShloMosaic.TcCoe Idealize.SL.Sem
open Cert.KernelIdeal Cert.KernelIdeal.Gen Cert.KernelIdeal.Talk Cert.Value
open Cert.ReferenceIdeal (S8x256x512)

/-! ## The devices' numbers -/

theorem word_even (c : Dev nD) : Scalar.muli 2#32 (wordOf c) = BitVec.ofNat 32 (2 * c.val) := by revert c; decide
theorem word_odd (c : Dev nD) : Scalar.addi (Scalar.muli 2#32 (wordOf c)) 1#32 = BitVec.ofNat 32 (2 * c.val + 1) := by revert c; decide

/-- The two experts a device holds. -/
def ev (c : Dev nD) : Fin 8 := ⟨2 * c.val, by have : c.val < 4 := c.isLt; omega⟩
def od (c : Dev nD) : Fin 8 := ⟨2 * c.val + 1, by have : c.val < 4 := c.isLt; omega⟩

/-- Row `r` of the block of rows device `c` answers for. -/
def row (c : Dev nD) (r : Fin 128) : Fin 512 := ⟨128 * c.val + r.val, by have : c.val < 4 := c.isLt; omega⟩

/-- The device whose rows device `c`'s partial number `k` is for. -/
theorem bwd_target (k : Fin 3) (c : Dev nD) : ((bwd k c).val + k.val + 1) % 4 = c.val := by revert k c; decide

/-! ## Windows at one place -/

section Windows

theorem rows_at (x : FVec Ideal S512x256 .f32) (off : Fin 2 → ℕ) (inb) (c : Dev nD) (ho : off = ![128 * c.val, 0]) (r : Fin 128) (k : Fin 256) :
    VecWindow.window (s := S512x256) x off S128x256.size inb (ix2 r k) = x (ix2 (row c r) k) := by
  subst ho
  refine congrArg x (funext fun a => Fin.ext ?_)
  revert a
  refine Fin.forall_fin_two.mpr ⟨?_, ?_⟩
  · show 128 * c.val + 1 * r.val = 128 * c.val + r.val
    omega
  · show 0 + 1 * k.val = k.val
    omega

theorem gates_at (g0 g1 : FVec Ideal S512x1 .f32) (z : Vec Ideal S512x2 .f32) (t : Fin 512) :
    VecWindow.put (VecWindow.put (s := S512x2) z ![0, 0] S512x1.size g0) ![0, 1] S512x1.size g1 (ix2 t 0) = g0 (ix2 t 0)
    ∧ VecWindow.put (VecWindow.put (s := S512x2) z ![0, 0] S512x1.size g0) ![0, 1] S512x1.size g1 (ix2 t 1) = g1 (ix2 t 0) := by
  constructor
  · unfold VecWindow.put
    rw [dif_neg, dif_pos]
    · refine congrArg g0 (funext fun a => Fin.ext ?_)
      revert a
      exact Fin.forall_fin_two.mpr ⟨rfl, rfl⟩
    · refine Fin.forall_fin_two.mpr ⟨?_, ?_⟩
      · exact ⟨Nat.zero_le _, by show t.val < 0 + 512; omega⟩
      · exact ⟨Nat.zero_le _, by show 0 < 0 + 1; omega⟩
    · intro h
      have := (h 1).1
      exact absurd this (by show ¬ 1 ≤ 0; omega)
  · unfold VecWindow.put
    rw [dif_pos]
    · refine congrArg g1 (funext fun a => Fin.ext ?_)
      revert a
      exact Fin.forall_fin_two.mpr ⟨rfl, rfl⟩
    · refine Fin.forall_fin_two.mpr ⟨?_, ?_⟩
      · exact ⟨Nat.zero_le _, by show t.val < 0 + 512; omega⟩
      · exact ⟨Nat.le_refl _, by show 1 < 1 + 1; omega⟩

theorem col_at (x : Vec Ideal S512x2 .f32) (off : Fin 2 → ℕ) (inb) (c : Dev nD) (j : Fin 2) (ho : off = ![128 * c.val, j.val]) (r : Fin 128) :
    VecWindow.window (s := S512x2) x off S128x1.size inb (ix2 r 0) = x (ix2 (row c r) j) := by
  subst ho
  refine congrArg x (funext fun a => Fin.ext ?_)
  revert a
  refine Fin.forall_fin_two.mpr ⟨?_, ?_⟩
  · show 128 * c.val + 1 * r.val = 128 * c.val + r.val
    omega
  · show j.val + 1 * 0 = j.val
    omega

end Windows

/-- The eight shares, as the four devices' pairs in the order one device adds them. -/
theorem pairs_sum (f : Fin 8 → EReal) (b : EReal) (c : Dev nD) :
    b + f (ev c) + f (od c) + (f (ev (bwd 1 c)) + f (od (bwd 1 c))) + (f (ev (bwd 0 c)) + f (od (bwd 0 c))) + (f (ev (bwd 2 c)) + f (od (bwd 2 c)))
      = b + ∑ e : Fin 8, f e := by
  rw [Fin.sum_univ_eight]
  fin_cases c
  · show b + f 0 + f 1 + (f 4 + f 5) + (f 6 + f 7) + (f 2 + f 3) = _
    ac_rfl
  · show b + f 2 + f 3 + (f 6 + f 7) + (f 0 + f 1) + (f 4 + f 5) = _
    ac_rfl
  · show b + f 4 + f 5 + (f 0 + f 1) + (f 2 + f 3) + (f 6 + f 7) = _
    ac_rfl
  · show b + f 6 + f 7 + (f 2 + f 3) + (f 4 + f 5) + (f 0 + f 1) = _
    ac_rfl

/-! ## The kernel's values -/

section Values

variable (m : (ℓ : Loc nD τ sig) → Buf (Elt Ideal) ℓ)
variable (x : FVec Ideal S512x256 .f32) (w : FVec Ideal S256x8 .f32) (i : IVec S512x1 32) (E : FVec Ideal S8x256x512 .f32) (s : FVec Ideal S256x512 .f32)

/-- What the devices hold before the kernel starts, in terms of the whole arguments. -/
structure Held : Prop where
  hx : ∀ c, xV m c = x
  hr : ∀ c (e : Fin 8) (k : Fin 256), k0_pay2 (rV m c) (ix2 e k) = w (ix2 k e)
  hi : ∀ c, iV m c = i
  he0 : ∀ c (k : Fin 256) (h : Fin 512), exp0 m c (ix3 0 k h) = E (ix3 (ev c) k h)
  he1 : ∀ c (k : Fin 256) (h : Fin 512), exp1 m c (ix3 0 k h) = E (ix3 (od c) k h)
  hs : ∀ c, sV m c = s

variable {m x w i E s} (H : Held m x w i E s)
include H

theorem scales_at (c : Dev nD) (t : Fin 512) :
    scales m c (ix2 t 0) = (if i (ix2 t 0) = BitVec.ofNat 32 (ev c).val then prob x w t (ev c) else 0)
    ∧ scales m c (ix2 t 1) = (if i (ix2 t 0) = BitVec.ofNat 32 (od c).val then prob x w t (od c) else 0) := by
  obtain ⟨h0, h1⟩ := gates_at (gate0 m c) (gate1 m c) (fun _ => Scalar.ofBits (F := Ideal) .f32 0#32) t
  refine ⟨h0.trans ?_, h1.trans ?_⟩
  · unfold gate0
    rw [H.hx, H.hi]
    exact pay5_at (wordOf c) (ev c) (word_even c) x _ w (H.hr c) i t
  · unfold gate1
    rw [H.hx, H.hi]
    exact pay6_at (wordOf c) (od c) (word_odd c) x _ w (H.hr c) i t

/-- A partial, at the rows of the device it is for. -/
theorem part_at (d c : Dev nD) (k : Fin 3) (hc : (d.val + k.val + 1) % 4 = c.val) (r : Fin 128) (h : Fin 512) :
    part m d k (ix3 0 r h) = share x w i E (row c r) h (ev d) + share x w i E (row c r) h (od d) := by
  unfold part
  rw [pay10_at]
  have e0 : sRows0 m d k (ix2 r 0) = _ := (col_at (scales m d) _ (k0_off2_inb d k) c 0 (by rw [k0_off2_eq, hc]; rfl) r).trans (scales_at H d (row c r)).1
  have e1 : sRows1 m d k (ix2 r 0) = _ := (col_at (scales m d) _ (k0_off3_inb d k) c 1 (by rw [k0_off3_eq, hc]; rfl) r).trans (scales_at H d (row c r)).2
  have ex : ∀ j : Fin 256, xRows m d k (ix2 r j) = x (ix2 (row c r) j) := fun j =>
    (rows_at (xV m d) _ (k0_off1_inb d k) c (by rw [k0_off1_eq, hc]) r j).trans (by rw [H.hx])
  rw [e0, e1]
  simp only [ex, H.he0, H.he1]
  rw [← kept_mul, ← kept_mul]
  rfl

/-- A device's own rows, before any partial is added. -/
theorem own_at (c : Dev nD) (r : Fin 128) (h : Fin 512) :
    acc0 m c (ix2 r h) = common x s (row c r) h + share x w i E (row c r) h (ev c) + share x w i E (row c r) h (od c) := by
  unfold acc0
  rw [pay12_at]
  have e0 : sOwn0 m c (ix2 r 0) = _ := (col_at (scales m c) _ (k0_off5_inb c) c 0 (k0_off5_eq c) r).trans (scales_at H c (row c r)).1
  have e1 : sOwn1 m c (ix2 r 0) = _ := (col_at (scales m c) _ (k0_off6_inb c) c 1 (k0_off6_eq c) r).trans (scales_at H c (row c r)).2
  have ex : ∀ j : Fin 256, xOwn m c (ix2 r j) = x (ix2 (row c r) j) := fun j =>
    (rows_at (xV m c) _ (k0_off4_inb c) c (k0_off4_eq c) r j).trans (by rw [H.hx])
  rw [e0, e1]
  simp only [ex, H.he0, H.he1, H.hs]
  rw [← kept_mul, ← kept_mul]
  rfl

/-- What a device leaves in its result is its block of the reference's. -/
theorem out_at (c : Dev nD) (r : Fin 128) (h : Fin 512) : outV m c (ix2 r h) = reference x w i E s (ix2 (row c r) h) := by
  unfold outV acc2
  rw [pay1_at, pay13_at, own_at H, part_at H _ c 1 (bwd_target 1 c), part_at H _ c 0 (bwd_target 0 c), part_at H _ c 2 (bwd_target 2 c), reference_at]
  exact pairs_sum (share x w i E (row c r) h) (common x s (row c r) h) c

end Values

/-! ## What the devices hold -/

section Start

variable (m : (ℓ : Loc nD τ sig) → Buf (Elt Ideal) ℓ)

theorem V₁_arg (c : Dev nD) (b : Ref sig .tc) (h : b ≠ main_v1) : V₁ m c b = m ((c : Thread nD τ).loc b) := by
  show StableHlo.after hostOps0 (V₀ m c) (Proc.devRef .tc b) = _
  rw [StableHlo.after_cons, StableHlo.after_nil, StableHlo.unary_result_ne _ _ _ _ _ _ h]

theorem V₁_turned (c : Dev nD) :
    rV m c = transpose S8x256 [1, 0] (m ((c : Thread nD τ).loc main_arg1)) transposes_S256x8_S8x256_1_0 := by
  show StableHlo.after hostOps0 (V₀ m c) (Proc.devRef .tc main_v1) = _
  rw [StableHlo.after_cons, StableHlo.after_nil, StableHlo.unary_result]

theorem router_at (v : FVec Ideal S256x8 .f32) (e : Fin 8) (k : Fin 256) :
    k0_pay2 (F := Ideal) (transpose S8x256 [1, 0] v transposes_S256x8_S8x256_1_0) (ix2 e k) = v (ix2 k e) := by
  pointwise [k0_pay2]

theorem expert_at (E : FVec Ideal S8x256x512 .f32) (c : Dev nD) (off : Fin 3 → ℕ) (inb) (j : Fin 2) (ho : off = ![j.val, 0, 0]) (e : Fin 8)
    (he : e.val = c.val * 2 + j.val) (hT) (k : Fin 256) (h : Fin 512) :
    VecWindow.window (s := S2x256x512) (Layout.block ⟨3, ![2, 256, 512]⟩ ⟨3, ![8, 256, 512]⟩ 0 4 c E hT) off S1x256x512.size inb (ix3 0 k h) = E (ix3 e k h) := by
  subst ho
  refine congrArg E (funext fun a => Fin.ext ?_)
  fin_cases a
  · show c.val * 2 + (j.val + 1 * 0) = e.val
    omega
  · show 0 + 1 * k.val = k.val
    omega
  · show 0 + 1 * h.val = h.val
    omega

end Start

/-! ## The claim -/

theorem algebraic : Cert.algebraic_KernelIdeal_ReferenceIdeal (hKernelIdeal := Cert.KernelIdeal.Gen.facts) (hReferenceIdeal := Cert.ReferenceIdeal.Gen.facts) := by
  intro m g m' g' _ hm
  have H : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hx := fun c => (V₁_arg m c main_arg0 (by decide)).trans (hm c).1
      hr := fun c e k => by
        rw [V₁_turned]
        exact (router_at _ e k).trans (congrFun (hm c).2.1 _)
      hi := fun c => (V₁_arg m c main_arg2 (by decide)).trans (hm c).2.2.1
      he0 := fun c k h => by
        unfold exp0
        rw [show eV m c = _ from (V₁_arg m c main_arg3 (by decide)).trans (hm c).2.2.2.1]
        exact expert_at _ c _ _ 0 rfl (ev c) (by show 2 * c.val = c.val * 2 + 0; omega) _ k h
      he1 := fun c k h => by
        unfold exp1
        rw [show eV m c = _ from (V₁_arg m c main_arg3 (by decide)).trans (hm c).2.2.2.1]
        exact expert_at _ c _ _ 1 rfl (od c) (by show 2 * c.val + 1 = c.val * 2 + 1; omega) _ k h
      hs := fun c => (V₁_arg m c main_arg4 (by decide)).trans (hm c).2.2.2.2 }
  refine ⟨reference _ _ _ _ _, (θ_run Cert.KernelIdeal.defs _ _).mono (fun r h c => ⟨(h.1 c).1.trans ?_, (h.1 c).2⟩) (run_all (F := Ideal) m g),
    (θ_run Cert.ReferenceIdeal.defs _ _).mono (fun r h => h 0) (Cert.ReferenceIdeal.Value.run (F := Ideal) m' g')⟩
  funext j
  rw [Layout.block_apply, eq_ix2 j, out_at H c (j 0) (j 1)]
  refine congrArg (reference _ _ _ _ _) (funext fun a => Fin.ext ?_)
  revert a
  refine Fin.forall_fin_two.mpr ⟨?_, rfl⟩
  show 128 * c.val + (j 0).val = c.val * 128 + (j 0).val
  omega

end Cert.Proof

end
-- ==== Proof.lean ====
/- The claims, put together. -/
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
